-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative_finite [hPre_scales_nonnegative_finite : Cert.Pre_scales_nonnegative_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scales_nonnegative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative_finite [hPre_scales_nonnegative_finite : Cert.Pre_scales_nonnegative_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scales_nonnegative_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonnegative_finite [hKernelIdeal : Cert.KernelIdeal.Facts] [hPre_scales_nonnegative_finite : Cert.Pre_scales_nonnegative_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonnegative_finite [hReferenceIdeal : Cert.ReferenceIdeal.Facts] [hPre_scales_nonnegative_finite : Cert.Pre_scales_nonnegative_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_nonnegative_finite [hKernelIdeal : Cert.KernelIdeal.Facts] [hReferenceIdeal : Cert.ReferenceIdeal.Facts] [hPre_scales_nonnegative_finite : Cert.Pre_scales_nonnegative_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_nonnegative_finite : Cert.Pre_scales_nonnegative_finite.Facts),
    quiescent_Kernel (hKernel := hKernel)
    ∧ quiescent_KernelIdeal (hKernelIdeal := hKernelIdeal)
    ∧ quiescent_KernelIdeal_pre_scales_nonnegative_finite (hKernelIdeal := hKernelIdeal) (hPre_scales_nonnegative_finite := hPre_scales_nonnegative_finite)
    ∧ quiescent_ReferenceIdeal (hReferenceIdeal := hReferenceIdeal)
    ∧ quiescent_ReferenceIdeal_pre_scales_nonnegative_finite (hReferenceIdeal := hReferenceIdeal) (hPre_scales_nonnegative_finite := hPre_scales_nonnegative_finite)
    ∧ preserves_Kernel_KernelIdeal
    ∧ algebraic_KernelIdeal_ReferenceIdeal_pre_scales_nonnegative_finite (hKernelIdeal := hKernelIdeal) (hReferenceIdeal := hReferenceIdeal) (hPre_scales_nonnegative_finite := hPre_scales_nonnegative_finite)
-- ==== Pre_scales_nonnegative_finite.lean ====
abbrev S2x24x32x960 : Shape := ⟨4, ![2, 24, 32, 960]⟩
abbrev S_ : Shape := ⟨0, ![]⟩
abbrev S2x24x32x320 : Shape := ⟨4, ![2, 24, 32, 320]⟩
abbrev S3x3x1280x640 : Shape := ⟨4, ![3, 3, 1280, 640]⟩
abbrev S640 : Shape := ⟨1, ![640]⟩

class Facts : Prop where

variable [Facts]

def fn {F : FTy → Type} [FloatOps F] (main_arg0 : FVec F S2x24x32x960 .fp8e4m3) (main_arg1 : FVec F S_ .f32) (main_arg2 : FVec F S2x24x32x320 .fp8e4m3) (main_arg3 : FVec F S_ .f32) (main_arg4 : FVec F S3x3x1280x640 .fp8e4m3) (main_arg5 : FVec F S640 .f32) (main_arg6 : FVec F S640 .f32) : IVec S_ 1 × IVec S_ 1 :=
  let main_cst : FVec F S_ .f32 := constant S_ .f32 0x00000000#32
  let main_v0 : IVec S_ 1 := cmpf .oge main_arg1 main_cst
  let main_cst_0 : FVec F S_ .f32 := constant S_ .f32 0x7F800000#32
  let main_v1 : IVec S_ 1 := cmpf .olt main_arg1 main_cst_0
  let main_v2 : IVec S_ 1 := andi main_v0 main_v1
  let main_cst_1 : FVec F S_ .f32 := constant S_ .f32 0x00000000#32
  let main_v3 : IVec S_ 1 := cmpf .oge main_arg3 main_cst_1
  let main_cst_2 : FVec F S_ .f32 := constant S_ .f32 0x7F800000#32
  let main_v4 : IVec S_ 1 := cmpf .olt main_arg3 main_cst_2
  let main_v5 : IVec S_ 1 := andi main_v3 main_v4
  (main_v2, main_v5)
-- ==== Kernel.lean ====
abbrev S2x24x32x960 : Shape := ⟨4, ![2, 24, 32, 960]⟩
abbrev S_ : Shape := ⟨0, ![]⟩
abbrev S2x24x32x320 : Shape := ⟨4, ![2, 24, 32, 320]⟩
abbrev S3x3x1280x640 : Shape := ⟨4, ![3, 3, 1280, 640]⟩
abbrev S640 : Shape := ⟨1, ![640]⟩
abbrev S1 : Shape := ⟨1, ![1]⟩
abbrev S2 : Shape := ⟨1, ![2]⟩
abbrev S1x640 : Shape := ⟨2, ![1, 640]⟩
abbrev S2x24x32x640 : Shape := ⟨4, ![2, 24, 32, 640]⟩
abbrev S1x24x32x960 : Shape := ⟨4, ![1, 24, 32, 960]⟩
abbrev S1x24x32x320 : Shape := ⟨4, ![1, 24, 32, 320]⟩
abbrev S1x24x32x640 : Shape := ⟨4, ![1, 24, 32, 640]⟩
abbrev S3x26x32x960 : Shape := ⟨4, ![3, 26, 32, 960]⟩
abbrev S3x26x32x320 : Shape := ⟨4, ![3, 26, 32, 320]⟩
abbrev S768x640 : Shape := ⟨2, ![768, 640]⟩
abbrev S32x960 : Shape := ⟨2, ![32, 960]⟩
abbrev S32x320 : Shape := ⟨2, ![32, 320]⟩
abbrev S1x1x32x960 : Shape := ⟨4, ![1, 1, 32, 960]⟩
abbrev S1x1x32x320 : Shape := ⟨4, ![1, 1, 32, 320]⟩
abbrev S24x32x960 : Shape := ⟨3, ![24, 32, 960]⟩
abbrev S24x32x320 : Shape := ⟨3, ![24, 32, 320]⟩
abbrev S768x960 : Shape := ⟨2, ![768, 960]⟩
abbrev S768x320 : Shape := ⟨2, ![768, 320]⟩
abbrev S1x1x960x640 : Shape := ⟨4, ![1, 1, 960, 640]⟩
abbrev S960x640 : Shape := ⟨2, ![960, 640]⟩
abbrev S1x1x320x640 : Shape := ⟨4, ![1, 1, 320, 640]⟩
abbrev S320x640 : Shape := ⟨2, ![320, 640]⟩
abbrev S24x32x640 : Shape := ⟨3, ![24, 32, 640]⟩

abbrev nBuf : Space → Nat
  | .hbm => 15
  | .vmem => 13
  | .smem => 1
  | _ => 0

abbrev bufTy : (tb : Table) → Fin (tcTables nBuf tb) → BufTy
  | .hbm, ⟨0, _⟩ => ⟨S2x24x32x960, .fp8e4m3⟩
  | .hbm, ⟨1, _⟩ => ⟨S_, .f32⟩
  | .hbm, ⟨2, _⟩ => ⟨S2x24x32x320, .fp8e4m3⟩
  | .hbm, ⟨3, _⟩ => ⟨S_, .f32⟩
  | .hbm, ⟨4, _⟩ => ⟨S3x3x1280x640, .fp8e4m3⟩
  | .hbm, ⟨5, _⟩ => ⟨S640, .f32⟩
  | .hbm, ⟨6, _⟩ => ⟨S640, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S2, .bf16⟩
  | .hbm, ⟨11, _⟩ => ⟨S2, .f32⟩
  | .hbm, ⟨12, _⟩ => ⟨S1x640, .f32⟩
  | .hbm, ⟨13, _⟩ => ⟨S1x640, .f32⟩
  | .hbm, ⟨14, _⟩ => ⟨S2x24x32x640, .bf16⟩
  | .local _ .vmem, ⟨0, _⟩ => ⟨S1x24x32x960, .fp8e4m3⟩
  | .local _ .vmem, ⟨1, _⟩ => ⟨S1x24x32x960, .fp8e4m3⟩
  | .local _ .vmem, ⟨2, _⟩ => ⟨S1x24x32x320, .fp8e4m3⟩
  | .local _ .vmem, ⟨3, _⟩ => ⟨S1x24x32x320, .fp8e4m3⟩
  | .local _ .vmem, ⟨4, _⟩ => ⟨S3x3x1280x640, .fp8e4m3⟩
  | .local _ .vmem, ⟨5, _⟩ => ⟨S1x640, .f32⟩
  | .local _ .vmem, ⟨6, _⟩ => ⟨S1x640, .f32⟩
  | .local _ .vmem, ⟨7, _⟩ => ⟨S1x24x32x640, .bf16⟩
  | .local _ .vmem, ⟨8, _⟩ => ⟨S1x24x32x640, .bf16⟩
  | .local _ .vmem, ⟨9, _⟩ => ⟨S3x26x32x960, .fp8e4m3⟩
  | .local _ .vmem, ⟨10, _⟩ => ⟨S3x26x32x320, .fp8e4m3⟩
  | .local _ .vmem, ⟨11, _⟩ => ⟨S768x640, .f32⟩
  | .local _ .vmem, ⟨12, _⟩ => ⟨S768x640, .f32⟩
  | .local _ .smem, ⟨0, _⟩ => ⟨S2, .f32⟩
  | _, _ => ⟨S2x24x32x960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x24x32x960 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x32x320 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3x1280x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x24x32x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x24x32x960 : Shape := ⟨4, ![2, 24, 32, 960]⟩
abbrev S_ : Shape := ⟨0, ![]⟩
abbrev S2x24x32x320 : Shape := ⟨4, ![2, 24, 32, 320]⟩
abbrev S3x3x1280x640 : Shape := ⟨4, ![3, 3, 1280, 640]⟩
abbrev S640 : Shape := ⟨1, ![640]⟩
abbrev S1 : Shape := ⟨1, ![1]⟩
abbrev S1x640 : Shape := ⟨2, ![1, 640]⟩
abbrev S2x24x32x640 : Shape := ⟨4, ![2, 24, 32, 640]⟩
abbrev S2x24x32x1280 : Shape := ⟨4, ![2, 24, 32, 1280]⟩
abbrev S2x1x32x1280 : Shape := ⟨4, ![2, 1, 32, 1280]⟩
abbrev S2x25x32x1280 : Shape := ⟨4, ![2, 25, 32, 1280]⟩
abbrev S2x26x32x1280 : Shape := ⟨4, ![2, 26, 32, 1280]⟩
abbrev S2x26x1x1280 : Shape := ⟨4, ![2, 26, 1, 1280]⟩
abbrev S2x26x33x1280 : Shape := ⟨4, ![2, 26, 33, 1280]⟩
abbrev S2x26x34x1280 : Shape := ⟨4, ![2, 26, 34, 1280]⟩
abbrev S2x24x32x11520 : Shape := ⟨4, ![2, 24, 32, 11520]⟩
abbrev S1536x11520 : Shape := ⟨2, ![1536, 11520]⟩
abbrev S11520x640 : Shape := ⟨2, ![11520, 640]⟩
abbrev S1536x640 : Shape := ⟨2, ![1536, 640]⟩

abbrev nBuf : Space → Nat
  | .hbm => 12
  | .vmem => 6
  | .smem => 2
  | _ => 0

abbrev bufTy : (tb : Table) → Fin (tcTables nBuf tb) → BufTy
  | .hbm, ⟨0, _⟩ => ⟨S2x24x32x960, .fp8e4m3⟩
  | .hbm, ⟨1, _⟩ => ⟨S_, .f32⟩
  | .hbm, ⟨2, _⟩ => ⟨S2x24x32x320, .fp8e4m3⟩
  | .hbm, ⟨3, _⟩ => ⟨S_, .f32⟩
  | .hbm, ⟨4, _⟩ => ⟨S3x3x1280x640, .fp8e4m3⟩
  | .hbm, ⟨5, _⟩ => ⟨S640, .f32⟩
  | .hbm, ⟨6, _⟩ => ⟨S640, .f32⟩
  | .hbm, ⟨7, _⟩ => ⟨S1, .f32⟩
  | .hbm, ⟨8, _⟩ => ⟨S1, .f32⟩
  | .hbm, ⟨9, _⟩ => ⟨S1x640, .f32⟩
  | .hbm, ⟨10, _⟩ => ⟨S1x640, .f32⟩
  | .hbm, ⟨11, _⟩ => ⟨S2x24x32x640, .bf16⟩
  | .local _ .vmem, ⟨0, _⟩ => ⟨S2x24x32x960, .fp8e4m3⟩
  | .local _ .vmem, ⟨1, _⟩ => ⟨S2x24x32x320, .fp8e4m3⟩
  | .local _ .vmem, ⟨2, _⟩ => ⟨S3x3x1280x640, .fp8e4m3⟩
  | .local _ .vmem, ⟨3, _⟩ => ⟨S1x640, .f32⟩
  | .local _ .vmem, ⟨4, _⟩ => ⟨S1x640, .f32⟩
  | .local _ .vmem, ⟨5, _⟩ => ⟨S2x24x32x640, .bf16⟩
  | .local _ .smem, ⟨0, _⟩ => ⟨S1, .f32⟩
  | .local _ .smem, ⟨1, _⟩ => ⟨S1, .f32⟩
  | _, _ => ⟨S2x24x32x960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg1_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x24x32x960 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x24x32x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3x1280x640 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x24x32x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pad.lean ====
/- Hand-written, untrusted: an image of 24 rows and 32 pixels read with one ring of zeros around it, and what scaling does
   to it and to sums. Nothing here is about a program. -/
module

public import Idealize.ShloMosaic.Lib.Pointwise

@[expose] public section

noncomputable section

namespace Cert.Proof.Pad

/-- The image `f` at row `r` and pixel `q` of its padded form, which has 26 rows and 34 pixels: zero on the ring. -/
def pad (f : Fin 24 → Fin 32 → EReal) (r q : ℕ) : EReal :=
  if h : (1 ≤ r ∧ r ≤ 24) ∧ (1 ≤ q ∧ q ≤ 32) then f ⟨r - 1, by omega⟩ ⟨q - 1, by omega⟩ else 0

/-- Inside the ring the padded image is the image. -/
theorem pad_in (f : Fin 24 → Fin 32 → EReal) (a : Fin 24) (b : Fin 32) (r q : ℕ) (hr : r = a.val + 1) (hq : q = b.val + 1) :
    pad f r q = f a b := by
  subst hr hq
  have ha := a.isLt
  have hb := b.isLt
  rw [pad, dif_pos (by omega)]
  rfl

/-- On the ring it is zero. -/
theorem pad_out (f : Fin 24 → Fin 32 → EReal) (r q : ℕ) (h : r = 0 ∨ 24 < r ∨ q = 0 ∨ 32 < q) : pad f r q = 0 := by
  rw [pad, dif_neg (by omega)]

/-- Scaling every pixel scales the padded image. -/
theorem pad_mul (f : Fin 24 → Fin 32 → EReal) (s : EReal) (r q : ℕ) : pad (fun a b => f a b * s) r q = pad f r q * s := by
  unfold pad
  split_ifs
  · rfl
  · rw [zero_mul]

/-- A scale that is nonnegative and finite comes out of a finite sum. -/
theorem sum_mul {ι : Type*} (t : Finset ι) (f : ι → EReal) (s : EReal) (h0 : 0 ≤ s) (h1 : s ≠ ⊤) :
    ∑ k ∈ t, f k * s = (∑ k ∈ t, f k) * s := by
  classical
  induction t using Finset.induction_on with
  | empty => simp
  | insert a t ha ih => rw [Finset.sum_insert ha, Finset.sum_insert ha, ih, EReal.right_distrib_of_nonneg_of_ne_top h0 h1]

/-- A sum over `a * b` numbers is `a` sums over `b`. -/
theorem sum_split (a b : ℕ) (f : ℕ → EReal) :
    ∑ k : Fin (a * b), f k.val = ∑ t : Fin a, ∑ c : Fin b, f (t.val * b + c.val) := by
  rw [← Finset.sum_product', Finset.univ_product_univ]
  exact (Fintype.sum_equiv finProdFinEquiv (fun p : Fin a × Fin b => f (p.1.val * b + p.2.val)) (fun k : Fin (a * b) => f k.val)
    fun p => by simp only [finProdFinEquiv_apply_val]; congr 1; rw [add_comm, mul_comm]).symm

/-- A sum over `Fin 11520` is nine sums over `Fin 1280`, three by three. -/
theorem sum_taps (g : Fin 11520 → EReal) :
    ∑ k : Fin 11520, g k = ∑ y : Fin 3, ∑ x : Fin 3, ∑ c : Fin 1280, g ⟨(y.val * 3 + x.val) * 1280 + c.val, by omega⟩ := by
  let f : ℕ → EReal := fun k => if h : k < 11520 then g ⟨k, h⟩ else 0
  have hf : ∀ (k : ℕ) (h : k < 11520), f k = g ⟨k, h⟩ := fun k h => dif_pos h
  have e := (sum_split 9 1280 f).trans (sum_split 3 3 fun t => ∑ c : Fin 1280, f (t * 1280 + c.val))
  refine (Finset.sum_congr rfl fun k _ => (hf k.val k.isLt).symm).trans (e.trans ?_)
  exact Finset.sum_congr rfl fun y _ => Finset.sum_congr rfl fun x _ => Finset.sum_congr rfl fun c _ => hf _ _

/-- A sum over `Fin 1280` is a sum over `Fin 960` and a sum over `Fin 320`. -/
theorem sum_channels (f : Fin 1280 → EReal) :
    ∑ c : Fin 1280, f c = (∑ c : Fin 960, f ⟨c.val, by omega⟩) + ∑ c : Fin 320, f ⟨960 + c.val, by omega⟩ :=
  Fin.sum_univ_add (a := 960) (b := 320) f

/-! ## The convolution and the activation -/

/-- One 3x3 window position of an image with `C` channels, read at output pixel `(i, p)` and output
channel `n`: the sum over the channels of the padded image times the weight. -/
def tap {C : ℕ} (f : Fin 24 → Fin 32 → Fin C → EReal) (w : Fin C → EReal) (i : Fin 24) (p : Fin 32)
    (y x : Fin 3) : EReal :=
  ∑ c : Fin C, pad (fun a b => f a b c) (i.val + y.val) (p.val + x.val) * w c

/-- All nine window positions together, column by column as the kernel adds them. -/
def conv {C : ℕ} (f : Fin 24 → Fin 32 → Fin C → EReal) (w : Fin 3 → Fin 3 → Fin C → EReal)
    (i : Fin 24) (p : Fin 32) : EReal :=
  ∑ x : Fin 3, ∑ y : Fin 3, tap f (w y x) i p y x

/-- The activation. -/
def silu (v : EReal) : EReal := v * Idealize.ShloMosaic.Ideal.logistic v

/-- A convolution of two scaled images, joined along the channels, is the two images' convolutions, scaled and added: the
    scales are nonnegative and finite, so that they come out of the sums. -/
theorem conv_split (f : Fin 24 → Fin 32 → Fin 1280 → EReal) (g : Fin 24 → Fin 32 → Fin 960 → EReal)
    (h : Fin 24 → Fin 32 → Fin 320 → EReal) (w : Fin 3 → Fin 3 → Fin 1280 → EReal) (s t : EReal) (hs0 : 0 ≤ s) (hs1 : s ≠ ⊤)
    (ht0 : 0 ≤ t) (ht1 : t ≠ ⊤) (hg : ∀ a b (c : Fin 960), f a b ⟨c.val, by omega⟩ = g a b c * s)
    (hh : ∀ a b (c : Fin 320), f a b ⟨960 + c.val, by omega⟩ = h a b c * t) (i : Fin 24) (p : Fin 32) :
    conv f w i p = conv g (fun y x c => w y x ⟨c.val, by omega⟩) i p * s + conv h (fun y x c => w y x ⟨960 + c.val, by omega⟩) i p * t := by
  have one : ∀ y x : Fin 3, tap f (w y x) i p y x =
      tap g (fun c => w y x ⟨c.val, by omega⟩) i p y x * s + tap h (fun c => w y x ⟨960 + c.val, by omega⟩) i p y x * t := by
    intro y x
    unfold tap
    rw [sum_channels, ← sum_mul _ _ s hs0 hs1, ← sum_mul _ _ t ht0 ht1]
    refine congrArg₂ _ (Finset.sum_congr rfl fun c _ => ?_) (Finset.sum_congr rfl fun c _ => ?_)
    · simp only [hg, pad_mul]
      exact mul_right_comm _ _ _
    · simp only [hh, pad_mul]
      exact mul_right_comm _ _ _
  unfold conv
  rw [← sum_mul _ _ s hs0 hs1, ← sum_mul _ _ t ht0 ht1, ← Finset.sum_add_distrib]
  refine Finset.sum_congr rfl fun x _ => ?_
  rw [← sum_mul _ _ s hs0 hs1, ← sum_mul _ _ t ht0 ht1, ← Finset.sum_add_distrib]
  exact Finset.sum_congr rfl fun y _ => one y x

/-- The result at image `b`, row `i`, pixel `p` and output channel `n`: the two images' convolutions with their parts of the
    weights, each times its image's scale, added; times the channel's weight scale, plus its bias; through the activation. -/
def result (x : Fin 2 → Fin 24 → Fin 32 → Fin 960 → EReal) (xs : EReal) (s : Fin 2 → Fin 24 → Fin 32 → Fin 320 → EReal) (ss : EReal)
    (w : Fin 3 → Fin 3 → Fin 1280 → Fin 640 → EReal) (ws bias : Fin 640 → EReal) (b : Fin 2) (i : Fin 24) (p : Fin 32) (n : Fin 640) :
    EReal :=
  silu ((conv (x b) (fun y x c => w y x ⟨c.val, by omega⟩ n) i p * xs
    + conv (s b) (fun y x c => w y x ⟨960 + c.val, by omega⟩ n) i p * ss) * ws n + bias n)

end Cert.Proof.Pad

end
-- ==== Proof.KernelScratch.lean ====
/- Hand-written, untrusted: WHAT THE KERNEL'S TWO STAGING BUFFERS HOLD. Each is nine stores — for each of three pixel
   shifts, a row of zeros above, a row of zeros below, and the 24 shifted rows between —, and every one of them is a block
   of one function: the padded image, read `dx` pixels to the right. -/
module

public import proofs.«01_k».proof.Proof.Gen.KernelIdeal.Value
public import proofs.«01_k».proof.Proof.Pad
public import Idealize.ShloMosaic.Lib.Pipeline.ValueKit
public import Idealize.ShloMosaic.Lib.Pipeline.ReadBack

@[expose] public section

set_option maxRecDepth 16384

noncomputable section

namespace Cert.Proof.K

open Cert.KernelIdeal Cert.KernelIdeal.Gen Idealize.ShloMosaic Idealize.ShloMosaic.TcCoe Idealize.SL.Sem
open Cert.Proof.Pad

/-- The integer zero converts to zero. -/
theorem zero_of_int (φ : FTy) : FloatOps.uitofp (F := Ideal) φ 0#32 = (0 : EReal) := by
  show (((0#32 : BitVec 32).toNat : ℝ) : EReal) = 0
  simp

/-- A mask that compares a pixel's number with `n`: where they differ … -/
theorem pixel_ne (b : Fin 32) (n : BitVec 32) (h : b.val ≠ n.toNat) (u v : EReal) :
    Scalar.select (IntOp.cmpi .eq (BitVec.ofNat 32 b.val) n) u v = v := by
  have hb := b.isLt
  have : BitVec.ofNat 32 b.val ≠ n := fun e => h (by rw [← e, BitVec.toNat_ofNat]; omega)
  rw [Scalar.select_of_ne_one]
  rw [IntOp.cmpi, beq_false_of_ne this]
  decide

/-- … and where they agree. -/
theorem pixel_eq (b : Fin 32) (n : BitVec 32) (h : b.val = n.toNat) (u v : EReal) :
    Scalar.select (IntOp.cmpi .eq (BitVec.ofNat 32 b.val) n) u v = u := by
  have : BitVec.ofNat 32 b.val = n := by rw [h]; simp
  simp [IntOp.cmpi, Scalar.select, this]

/-! ## The staging buffer of 960 channels -/

/-- Shift `dx`, padded row `r`, pixel `p`, channel `k`. -/
def XP (x : Vec Ideal S1x24x32x960 .fp8e4m3) : Vec Ideal S3x26x32x960 .fp8e4m3 :=
  fun y => pad (fun a b => x (ix4 0 a b (y 3))) (y 1).val ((y 2).val + (y 0).val)

/-- The staging buffer of the 960-channel image, at an index whose row and shifted pixel are named. -/
theorem XP_at (x : Vec Ideal S1x24x32x960 .fp8e4m3) (y : S3x26x32x960.Idx) (r q : ℕ) (k : Fin 960) (h1 : (y 1).val = r)
    (h2 : (y 2).val + (y 0).val = q) (h3 : (y 3).val = k.val) : XP x y = pad (fun a b => x (ix4 0 a b k)) r q := by
  subst h1 h2
  obtain rfl : y 3 = k := Fin.ext h3
  rfl

/-- A row of zeros. -/
theorem XP_zero (z : S1x1x32x960.Idx) : k0_pay4 (F := Ideal) z = (0 : EReal) := by
  pointwise [k0_pay4, k0_pay2]
  exact zero_of_int _

/-- The rows as they are: the middle pixel of the window. -/
theorem XP_mid (v : Vec Ideal S1x24x32x960 .fp8e4m3) (j : S1x24x32x960.Idx) :
    k0_pay15 (F := Ideal) v j = pad (fun a b => v (ix4 0 a b (j 3))) ((j 1).val + 1) ((j 2).val + 1) := by
  idx_vars j
  pointwise [k0_pay15]
  rw [pad_in _ j1 j2 _ _ rfl rfl, Subsingleton.elim j0 0]

/-- The rows one pixel to the right: the left pixel of the window. -/
theorem XP_left (v : Vec Ideal S1x24x32x960 .fp8e4m3) (j : S1x24x32x960.Idx) :
    k0_pay9 (F := Ideal) (k0_pay8 v) j = pad (fun a b => v (ix4 0 a b (j 3))) ((j 1).val + 1) (j 2).val := by
  idx_vars j
  pointwise [k0_pay9, k0_pay8]
  have h2 := j2.isLt
  rcases Nat.eq_zero_or_pos j2.val with h | h
  · rw [pixel_eq _ _ h, pad_out _ _ _ (by omega)]
    exact zero_of_int _
  · rw [pixel_ne _ _ (by simp; omega), pad_in _ j1 ⟨(j2.val + 32 - 1) % 32, Nat.mod_lt _ (by decide)⟩ _ _ rfl (by simp only; omega)]

/-- The rows one pixel to the left: the right pixel of the window. -/
theorem XP_right (v : Vec Ideal S1x24x32x960 .fp8e4m3) (j : S1x24x32x960.Idx) :
    k0_pay21 (F := Ideal) v j = pad (fun a b => v (ix4 0 a b (j 3))) ((j 1).val + 1) ((j 2).val + 2) := by
  idx_vars j
  pointwise [k0_pay21]
  have h2 := j2.isLt
  by_cases h : j2.val = 31
  · rw [pixel_eq _ _ h, pad_out _ _ _ (by omega)]
    exact zero_of_int _
  · rw [pixel_ne _ _ (by simpa using h), pad_in _ j1 ⟨(j2.val + 32 - 31) % 32, Nat.mod_lt _ (by decide)⟩ _ _ rfl (by simp only; omega)]

/-- The nine stores, last first. -/
def XP_pieces (x : Vec Ideal S1x24x32x960 .fp8e4m3) : List (View.Piece (Elt Ideal) S3x26x32x960 .fp8e4m3) :=
  [⟨Rect.unit ![2, 1, 0, 0] S1x24x32x960.size inb_S3x26x32x960_S1x24x32x960_2_1_0_0, k0_pay21 (F := Ideal) x⟩,
   ⟨Rect.unit ![2, 25, 0, 0] S1x1x32x960.size inb_S3x26x32x960_S1x1x32x960_2_25_0_0, k0_pay18 (F := Ideal) k0_pay2⟩,
   ⟨Rect.unit ![2, 0, 0, 0] S1x1x32x960.size inb_S3x26x32x960_S1x1x32x960_2_0_0_0, k0_pay17 (F := Ideal) k0_pay2⟩,
   ⟨Rect.unit ![1, 1, 0, 0] S1x24x32x960.size inb_S3x26x32x960_S1x24x32x960_1_1_0_0, k0_pay15 (F := Ideal) x⟩,
   ⟨Rect.unit ![1, 25, 0, 0] S1x1x32x960.size inb_S3x26x32x960_S1x1x32x960_1_25_0_0, k0_pay12 (F := Ideal) k0_pay2⟩,
   ⟨Rect.unit ![1, 0, 0, 0] S1x1x32x960.size inb_S3x26x32x960_S1x1x32x960_1_0_0_0, k0_pay11 (F := Ideal) k0_pay2⟩,
   ⟨Rect.unit ![0, 1, 0, 0] S1x24x32x960.size inb_S3x26x32x960_S1x24x32x960_0_1_0_0, k0_pay9 (k0_pay8 x)⟩,
   ⟨Rect.unit ![0, 25, 0, 0] S1x1x32x960.size inb_S3x26x32x960_S1x1x32x960_0_25_0_0, k0_pay5 (F := Ideal)⟩,
   ⟨Rect.unit ![0, 0, 0, 0] S1x1x32x960.size inb_S3x26x32x960_S1x1x32x960_0_0_0_0, k0_pay4 (F := Ideal)⟩]

/-- Each of them is a block of the padded image. -/
theorem XP_piecesOf (x : Vec Ideal S1x24x32x960 .fp8e4m3) : View.PiecesOf (XP x) (XP_pieces x) := by
  unfold XP_pieces
  refine ⟨fun j => ?_, fun j => ?_, fun j => ?_, fun j => ?_, fun j => ?_, fun j => ?_, fun j => ?_, fun j => ?_, fun j => ?_, trivial⟩
  · refine (XP_right x j).trans (XP_at x _ _ _ (j 3) ?_ ?_ ?_).symm
    · rw [Rect.emb_apply]; show 1 + 1 * (j 1).val = _; omega
    · rw [Rect.emb_apply, Rect.emb_apply]; have := (j 0).isLt; change (j 0).val < 1 at this; show 0 + 1 * (j 2).val + (2 + 1 * (j 0).val) = _; omega
    · rw [Rect.emb_apply]; show 0 + 1 * (j 3).val = _; omega
  · refine (XP_zero j).trans ((XP_at x _ 25 _ (j 3) ?_ rfl ?_).trans (pad_out _ _ _ (by omega))).symm
    · rw [Rect.emb_apply]; have := (j 1).isLt; change (j 1).val < 1 at this; show 25 + 1 * (j 1).val = _; omega
    · rw [Rect.emb_apply]; show 0 + 1 * (j 3).val = _; omega
  · refine (XP_zero j).trans ((XP_at x _ 0 _ (j 3) ?_ rfl ?_).trans (pad_out _ _ _ (by omega))).symm
    · rw [Rect.emb_apply]; have := (j 1).isLt; change (j 1).val < 1 at this; show 0 + 1 * (j 1).val = _; omega
    · rw [Rect.emb_apply]; show 0 + 1 * (j 3).val = _; omega
  · refine (XP_mid x j).trans (XP_at x _ _ _ (j 3) ?_ ?_ ?_).symm
    · rw [Rect.emb_apply]; show 1 + 1 * (j 1).val = _; omega
    · rw [Rect.emb_apply, Rect.emb_apply]; have := (j 0).isLt; change (j 0).val < 1 at this; show 0 + 1 * (j 2).val + (1 + 1 * (j 0).val) = _; omega
    · rw [Rect.emb_apply]; show 0 + 1 * (j 3).val = _; omega
  · refine (XP_zero j).trans ((XP_at x _ 25 _ (j 3) ?_ rfl ?_).trans (pad_out _ _ _ (by omega))).symm
    · rw [Rect.emb_apply]; have := (j 1).isLt; change (j 1).val < 1 at this; show 25 + 1 * (j 1).val = _; omega
    · rw [Rect.emb_apply]; show 0 + 1 * (j 3).val = _; omega
  · refine (XP_zero j).trans ((XP_at x _ 0 _ (j 3) ?_ rfl ?_).trans (pad_out _ _ _ (by omega))).symm
    · rw [Rect.emb_apply]; have := (j 1).isLt; change (j 1).val < 1 at this; show 0 + 1 * (j 1).val = _; omega
    · rw [Rect.emb_apply]; show 0 + 1 * (j 3).val = _; omega
  · refine (XP_left x j).trans (XP_at x _ _ _ (j 3) ?_ ?_ ?_).symm
    · rw [Rect.emb_apply]; show 1 + 1 * (j 1).val = _; omega
    · rw [Rect.emb_apply, Rect.emb_apply]; have := (j 0).isLt; change (j 0).val < 1 at this; show 0 + 1 * (j 2).val + (0 + 1 * (j 0).val) = _; omega
    · rw [Rect.emb_apply]; show 0 + 1 * (j 3).val = _; omega
  · refine (XP_zero j).trans ((XP_at x _ 25 _ (j 3) ?_ rfl ?_).trans (pad_out _ _ _ (by omega))).symm
    · rw [Rect.emb_apply]; have := (j 1).isLt; change (j 1).val < 1 at this; show 25 + 1 * (j 1).val = _; omega
    · rw [Rect.emb_apply]; show 0 + 1 * (j 3).val = _; omega
  · refine (XP_zero j).trans ((XP_at x _ 0 _ (j 3) ?_ rfl ?_).trans (pad_out _ _ _ (by omega))).symm
    · rw [Rect.emb_apply]; have := (j 1).isLt; change (j 1).val < 1 at this; show 0 + 1 * (j 1).val = _; omega
    · rw [Rect.emb_apply]; show 0 + 1 * (j 3).val = _; omega

/-- Together they cover the buffer: cut into rows, they tile it. -/
theorem XP_cover (x : Vec Ideal S1x24x32x960 .fp8e4m3) (y : S3x26x32x960.Idx) : ∃ p ∈ XP_pieces x, y ∈ p.1.set :=
  View.cover_of_tiledBy (XP_pieces x) ![1, 1, 32, 960] (by sl_kernel_rfl) y

/-- So the buffer holds the padded image, … -/
theorem XP_canon (x : Vec Ideal S1x24x32x960 .fp8e4m3) : View.canon (XP_pieces x) = XP x :=
  funext fun y => (congrFun (congrArg View.canon (List.append_nil (XP_pieces x)).symm) y).trans
    (View.canon_append_of_piecesOf (XP x) [] _ (XP_piecesOf x) y (XP_cover x y))

/-- … and a load of a block of the buffer reads a block of the padded image. -/
theorem XP_read (v : View sig .tc .vmem S3x26x32x960 .fp8e4m3) (x : Vec Ideal S1x24x32x960 .fp8e4m3) (r : Rect S3x26x32x960) :
    v.readCov (XP_pieces x) r.toLoadRect = View.ld (XP x) r :=
  (View.readCov_eq_canon_ld v (XP_pieces x) r (XP_cover x)).trans (congrArg (fun X => View.ld X r) (XP_canon x))

/-! ## The staging buffer of 320 channels -/

/-- Shift `dx`, padded row `r`, pixel `p`, channel `k`. -/
def SP (x : Vec Ideal S1x24x32x320 .fp8e4m3) : Vec Ideal S3x26x32x320 .fp8e4m3 :=
  fun y => pad (fun a b => x (ix4 0 a b (y 3))) (y 1).val ((y 2).val + (y 0).val)

/-- The staging buffer of the 320-channel image, at an index whose row and shifted pixel are named. -/
theorem SP_at (x : Vec Ideal S1x24x32x320 .fp8e4m3) (y : S3x26x32x320.Idx) (r q : ℕ) (k : Fin 320) (h1 : (y 1).val = r)
    (h2 : (y 2).val + (y 0).val = q) (h3 : (y 3).val = k.val) : SP x y = pad (fun a b => x (ix4 0 a b k)) r q := by
  subst h1 h2
  obtain rfl : y 3 = k := Fin.ext h3
  rfl

/-- A row of zeros. -/
theorem SP_zero (z : S1x1x32x320.Idx) : k0_pay6 (F := Ideal) z = (0 : EReal) := by
  pointwise [k0_pay6, k0_pay3]
  exact zero_of_int _

/-- The rows as they are: the middle pixel of the window. -/
theorem SP_mid (v : Vec Ideal S1x24x32x320 .fp8e4m3) (j : S1x24x32x320.Idx) :
    k0_pay16 (F := Ideal) v j = pad (fun a b => v (ix4 0 a b (j 3))) ((j 1).val + 1) ((j 2).val + 1) := by
  idx_vars j
  pointwise [k0_pay16]
  rw [pad_in _ j1 j2 _ _ rfl rfl, Subsingleton.elim j0 0]

/-- The rows one pixel to the right: the left pixel of the window. -/
theorem SP_left (v : Vec Ideal S1x24x32x320 .fp8e4m3) (j : S1x24x32x320.Idx) :
    k0_pay10 (F := Ideal) v j = pad (fun a b => v (ix4 0 a b (j 3))) ((j 1).val + 1) (j 2).val := by
  idx_vars j
  pointwise [k0_pay10]
  have h2 := j2.isLt
  rcases Nat.eq_zero_or_pos j2.val with h | h
  · rw [pixel_eq _ _ h, pad_out _ _ _ (by omega)]
    exact zero_of_int _
  · rw [pixel_ne _ _ (by simp; omega), pad_in _ j1 ⟨(j2.val + 32 - 1) % 32, Nat.mod_lt _ (by decide)⟩ _ _ rfl (by simp only; omega)]

/-- The rows one pixel to the left: the right pixel of the window. -/
theorem SP_right (v : Vec Ideal S1x24x32x320 .fp8e4m3) (j : S1x24x32x320.Idx) :
    k0_pay22 (F := Ideal) v j = pad (fun a b => v (ix4 0 a b (j 3))) ((j 1).val + 1) ((j 2).val + 2) := by
  idx_vars j
  pointwise [k0_pay22]
  have h2 := j2.isLt
  by_cases h : j2.val = 31
  · rw [pixel_eq _ _ h, pad_out _ _ _ (by omega)]
    exact zero_of_int _
  · rw [pixel_ne _ _ (by simpa using h), pad_in _ j1 ⟨(j2.val + 32 - 31) % 32, Nat.mod_lt _ (by decide)⟩ _ _ rfl (by simp only; omega)]

/-- The nine stores, last first. -/
def SP_pieces (x : Vec Ideal S1x24x32x320 .fp8e4m3) : List (View.Piece (Elt Ideal) S3x26x32x320 .fp8e4m3) :=
  [⟨Rect.unit ![2, 1, 0, 0] S1x24x32x320.size inb_S3x26x32x320_S1x24x32x320_2_1_0_0, k0_pay22 (F := Ideal) x⟩,
   ⟨Rect.unit ![2, 25, 0, 0] S1x1x32x320.size inb_S3x26x32x320_S1x1x32x320_2_25_0_0, k0_pay20 (F := Ideal) k0_pay3⟩,
   ⟨Rect.unit ![2, 0, 0, 0] S1x1x32x320.size inb_S3x26x32x320_S1x1x32x320_2_0_0_0, k0_pay19 (F := Ideal) k0_pay3⟩,
   ⟨Rect.unit ![1, 1, 0, 0] S1x24x32x320.size inb_S3x26x32x320_S1x24x32x320_1_1_0_0, k0_pay16 (F := Ideal) x⟩,
   ⟨Rect.unit ![1, 25, 0, 0] S1x1x32x320.size inb_S3x26x32x320_S1x1x32x320_1_25_0_0, k0_pay14 (F := Ideal) k0_pay3⟩,
   ⟨Rect.unit ![1, 0, 0, 0] S1x1x32x320.size inb_S3x26x32x320_S1x1x32x320_1_0_0_0, k0_pay13 (F := Ideal) k0_pay3⟩,
   ⟨Rect.unit ![0, 1, 0, 0] S1x24x32x320.size inb_S3x26x32x320_S1x24x32x320_0_1_0_0, k0_pay10 x⟩,
   ⟨Rect.unit ![0, 25, 0, 0] S1x1x32x320.size inb_S3x26x32x320_S1x1x32x320_0_25_0_0, k0_pay7 (F := Ideal)⟩,
   ⟨Rect.unit ![0, 0, 0, 0] S1x1x32x320.size inb_S3x26x32x320_S1x1x32x320_0_0_0_0, k0_pay6 (F := Ideal)⟩]

/-- Each of them is a block of the padded image. -/
theorem SP_piecesOf (x : Vec Ideal S1x24x32x320 .fp8e4m3) : View.PiecesOf (SP x) (SP_pieces x) := by
  unfold SP_pieces
  refine ⟨fun j => ?_, fun j => ?_, fun j => ?_, fun j => ?_, fun j => ?_, fun j => ?_, fun j => ?_, fun j => ?_, fun j => ?_, trivial⟩
  · refine (SP_right x j).trans (SP_at x _ _ _ (j 3) ?_ ?_ ?_).symm
    · rw [Rect.emb_apply]; show 1 + 1 * (j 1).val = _; omega
    · rw [Rect.emb_apply, Rect.emb_apply]; have := (j 0).isLt; change (j 0).val < 1 at this; show 0 + 1 * (j 2).val + (2 + 1 * (j 0).val) = _; omega
    · rw [Rect.emb_apply]; show 0 + 1 * (j 3).val = _; omega
  · refine (SP_zero j).trans ((SP_at x _ 25 _ (j 3) ?_ rfl ?_).trans (pad_out _ _ _ (by omega))).symm
    · rw [Rect.emb_apply]; have := (j 1).isLt; change (j 1).val < 1 at this; show 25 + 1 * (j 1).val = _; omega
    · rw [Rect.emb_apply]; show 0 + 1 * (j 3).val = _; omega
  · refine (SP_zero j).trans ((SP_at x _ 0 _ (j 3) ?_ rfl ?_).trans (pad_out _ _ _ (by omega))).symm
    · rw [Rect.emb_apply]; have := (j 1).isLt; change (j 1).val < 1 at this; show 0 + 1 * (j 1).val = _; omega
    · rw [Rect.emb_apply]; show 0 + 1 * (j 3).val = _; omega
  · refine (SP_mid x j).trans (SP_at x _ _ _ (j 3) ?_ ?_ ?_).symm
    · rw [Rect.emb_apply]; show 1 + 1 * (j 1).val = _; omega
    · rw [Rect.emb_apply, Rect.emb_apply]; have := (j 0).isLt; change (j 0).val < 1 at this; show 0 + 1 * (j 2).val + (1 + 1 * (j 0).val) = _; omega
    · rw [Rect.emb_apply]; show 0 + 1 * (j 3).val = _; omega
  · refine (SP_zero j).trans ((SP_at x _ 25 _ (j 3) ?_ rfl ?_).trans (pad_out _ _ _ (by omega))).symm
    · rw [Rect.emb_apply]; have := (j 1).isLt; change (j 1).val < 1 at this; show 25 + 1 * (j 1).val = _; omega
    · rw [Rect.emb_apply]; show 0 + 1 * (j 3).val = _; omega
  · refine (SP_zero j).trans ((SP_at x _ 0 _ (j 3) ?_ rfl ?_).trans (pad_out _ _ _ (by omega))).symm
    · rw [Rect.emb_apply]; have := (j 1).isLt; change (j 1).val < 1 at this; show 0 + 1 * (j 1).val = _; omega
    · rw [Rect.emb_apply]; show 0 + 1 * (j 3).val = _; omega
  · refine (SP_left x j).trans (SP_at x _ _ _ (j 3) ?_ ?_ ?_).symm
    · rw [Rect.emb_apply]; show 1 + 1 * (j 1).val = _; omega
    · rw [Rect.emb_apply, Rect.emb_apply]; have := (j 0).isLt; change (j 0).val < 1 at this; show 0 + 1 * (j 2).val + (0 + 1 * (j 0).val) = _; omega
    · rw [Rect.emb_apply]; show 0 + 1 * (j 3).val = _; omega
  · refine (SP_zero j).trans ((SP_at x _ 25 _ (j 3) ?_ rfl ?_).trans (pad_out _ _ _ (by omega))).symm
    · rw [Rect.emb_apply]; have := (j 1).isLt; change (j 1).val < 1 at this; show 25 + 1 * (j 1).val = _; omega
    · rw [Rect.emb_apply]; show 0 + 1 * (j 3).val = _; omega
  · refine (SP_zero j).trans ((SP_at x _ 0 _ (j 3) ?_ rfl ?_).trans (pad_out _ _ _ (by omega))).symm
    · rw [Rect.emb_apply]; have := (j 1).isLt; change (j 1).val < 1 at this; show 0 + 1 * (j 1).val = _; omega
    · rw [Rect.emb_apply]; show 0 + 1 * (j 3).val = _; omega

/-- Together they cover the buffer: cut into rows, they tile it. -/
theorem SP_cover (x : Vec Ideal S1x24x32x320 .fp8e4m3) (y : S3x26x32x320.Idx) : ∃ p ∈ SP_pieces x, y ∈ p.1.set :=
  View.cover_of_tiledBy (SP_pieces x) ![1, 1, 32, 320] (by sl_kernel_rfl) y

/-- So the buffer holds the padded image, … -/
theorem SP_canon (x : Vec Ideal S1x24x32x320 .fp8e4m3) : View.canon (SP_pieces x) = SP x :=
  funext fun y => (congrFun (congrArg View.canon (List.append_nil (SP_pieces x)).symm) y).trans
    (View.canon_append_of_piecesOf (SP x) [] _ (SP_piecesOf x) y (SP_cover x y))

/-- … and a load of a block of the buffer reads a block of the padded image. -/
theorem SP_read (v : View sig .tc .vmem S3x26x32x320 .fp8e4m3) (x : Vec Ideal S1x24x32x320 .fp8e4m3) (r : Rect S3x26x32x320) :
    v.readCov (SP_pieces x) r.toLoadRect = View.ld (SP x) r :=
  (View.readCov_eq_canon_ld v (SP_pieces x) r (SP_cover x)).trans (congrArg (fun X => View.ld X r) (SP_canon x))

end Cert.Proof.K

end
-- ==== Proof.KernelBlock.lean ====
/- Hand-written, untrusted: ONE BLOCK OF THE KERNEL'S RESULT. A grid point takes one image, adds nine window products for each
   of its two inputs, combines them with the scales, and applies weight scale, bias and activation. -/
module

public import proofs.«01_k».proof.Proof.KernelScratch
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.K

open Cert.KernelIdeal Cert.KernelIdeal.Gen Idealize.ShloMosaic Idealize.ShloMosaic.TcCoe Idealize.SL.Sem
open Cert.Proof.Pad

/-- One product step of the 960-channel accumulator: it adds the product of an image block and a weight block. -/
theorem x_step (a : Vec Ideal S1x24x32x960 .fp8e4m3) (acc : Vec Ideal S768x640 .f32)
    (w : Vec Ideal S1x1x960x640 .fp8e4m3) (i : Fin 24) (p : Fin 32) (n : Fin 640) :
    k0_pay25 a acc w (ix2 ⟨i.val * 32 + p.val, by omega⟩ n) =
      acc (ix2 ⟨i.val * 32 + p.val, by omega⟩ n)
        + ∑ c : Fin 960, a (ix4 0 i p c) * w (ix4 0 0 c n) := by
  pointwise [k0_pay25]

/-- A window of the staging buffer is the padded image, moved by the window's position. -/
theorem x_image (x : Vec Ideal S1x24x32x960 .fp8e4m3) (dx dy : ℕ) (hx : dx < 3) (hy : dy < 3)
    (inb : ∀ a : Fin S3x26x32x960.rank, ![dx, dy, 0, 0] a + S1x24x32x960.size a ≤ S3x26x32x960.size a)
    (i : Fin 24) (p : Fin 32) (c : Fin 960) :
    View.ld (XP x) (Rect.unit ![dx, dy, 0, 0] S1x24x32x960.size inb) (ix4 0 i p c) =
      pad (fun a b => x (ix4 0 a b c)) (i.val + dy) (p.val + dx) := by
  pointwise [XP]
  rw [Nat.add_comm dy]

/-- A weight block of one window position, in the first 960 input channels. -/
theorem x_weight (w : Vec Ideal S3x3x1280x640 .fp8e4m3) (dx dy : ℕ) (hx : dx < 3) (hy : dy < 3)
    (inb : ∀ a : Fin S3x3x1280x640.rank, ![dy, dx, 0, 0] a + S1x1x960x640.size a ≤ S3x3x1280x640.size a)
    (c : Fin 960) (n : Fin 640) :
    View.ld w (Rect.unit ![dy, dx, 0, 0] S1x1x960x640.size inb) (ix4 0 0 c n) =
      w (ix4 ⟨dy, hy⟩ ⟨dx, hx⟩ ⟨0 + c.val, by omega⟩ n) := by
  pointwise

/-- So one step adds one window position. -/
theorem x_tap (x : Vec Ideal S1x24x32x960 .fp8e4m3) (w : Vec Ideal S3x3x1280x640 .fp8e4m3)
    (acc : Vec Ideal S768x640 .f32) (dx dy : ℕ) (hx : dx < 3) (hy : dy < 3)
    (inb : ∀ a : Fin S3x26x32x960.rank, ![dx, dy, 0, 0] a + S1x24x32x960.size a ≤ S3x26x32x960.size a)
    (inb' : ∀ a : Fin S3x3x1280x640.rank, ![dy, dx, 0, 0] a + S1x1x960x640.size a ≤ S3x3x1280x640.size a)
    (i : Fin 24) (p : Fin 32) (n : Fin 640) :
    k0_pay25 (View.ld (XP x) (Rect.unit ![dx, dy, 0, 0] S1x24x32x960.size inb)) acc
        (View.ld w (Rect.unit ![dy, dx, 0, 0] S1x1x960x640.size inb'))
        (ix2 ⟨i.val * 32 + p.val, by omega⟩ n) =
      acc (ix2 ⟨i.val * 32 + p.val, by omega⟩ n)
        + tap (fun a b c => x (ix4 0 a b c)) (fun c => w (ix4 ⟨dy, hy⟩ ⟨dx, hx⟩ ⟨0 + c.val, by omega⟩ n))
            i p ⟨dy, hy⟩ ⟨dx, hx⟩ := by
  rw [x_step]
  refine congrArg _ (Finset.sum_congr rfl fun c _ => ?_)
  rw [x_image x dx dy hx hy, x_weight w dx dy hx hy]

/-- One product step of the 320-channel accumulator. -/
theorem s_step (a : Vec Ideal S1x24x32x320 .fp8e4m3) (acc : Vec Ideal S768x640 .f32)
    (w : Vec Ideal S1x1x320x640 .fp8e4m3) (i : Fin 24) (p : Fin 32) (n : Fin 640) :
    k0_pay26 a acc w (ix2 ⟨i.val * 32 + p.val, by omega⟩ n) =
      acc (ix2 ⟨i.val * 32 + p.val, by omega⟩ n)
        + ∑ c : Fin 320, a (ix4 0 i p c) * w (ix4 0 0 c n) := by
  pointwise [k0_pay26]

/-- A window of its staging buffer is the padded image, moved by the window's position. -/
theorem s_image (x : Vec Ideal S1x24x32x320 .fp8e4m3) (dx dy : ℕ) (hx : dx < 3) (hy : dy < 3)
    (inb : ∀ a : Fin S3x26x32x320.rank, ![dx, dy, 0, 0] a + S1x24x32x320.size a ≤ S3x26x32x320.size a)
    (i : Fin 24) (p : Fin 32) (c : Fin 320) :
    View.ld (SP x) (Rect.unit ![dx, dy, 0, 0] S1x24x32x320.size inb) (ix4 0 i p c) =
      pad (fun a b => x (ix4 0 a b c)) (i.val + dy) (p.val + dx) := by
  pointwise [SP]
  rw [Nat.add_comm dy]

/-- A weight block of one window position, in the last 320 input channels. -/
theorem s_weight (w : Vec Ideal S3x3x1280x640 .fp8e4m3) (dx dy : ℕ) (hx : dx < 3) (hy : dy < 3)
    (inb : ∀ a : Fin S3x3x1280x640.rank, ![dy, dx, 960, 0] a + S1x1x320x640.size a ≤ S3x3x1280x640.size a)
    (c : Fin 320) (n : Fin 640) :
    View.ld w (Rect.unit ![dy, dx, 960, 0] S1x1x320x640.size inb) (ix4 0 0 c n) =
      w (ix4 ⟨dy, hy⟩ ⟨dx, hx⟩ ⟨960 + c.val, by omega⟩ n) := by
  pointwise

/-- So one step adds one window position. -/
theorem s_tap (x : Vec Ideal S1x24x32x320 .fp8e4m3) (w : Vec Ideal S3x3x1280x640 .fp8e4m3)
    (acc : Vec Ideal S768x640 .f32) (dx dy : ℕ) (hx : dx < 3) (hy : dy < 3)
    (inb : ∀ a : Fin S3x26x32x320.rank, ![dx, dy, 0, 0] a + S1x24x32x320.size a ≤ S3x26x32x320.size a)
    (inb' : ∀ a : Fin S3x3x1280x640.rank, ![dy, dx, 960, 0] a + S1x1x320x640.size a ≤ S3x3x1280x640.size a)
    (i : Fin 24) (p : Fin 32) (n : Fin 640) :
    k0_pay26 (View.ld (SP x) (Rect.unit ![dx, dy, 0, 0] S1x24x32x320.size inb)) acc
        (View.ld w (Rect.unit ![dy, dx, 960, 0] S1x1x320x640.size inb'))
        (ix2 ⟨i.val * 32 + p.val, by omega⟩ n) =
      acc (ix2 ⟨i.val * 32 + p.val, by omega⟩ n)
        + tap (fun a b c => x (ix4 0 a b c)) (fun c => w (ix4 ⟨dy, hy⟩ ⟨dx, hx⟩ ⟨960 + c.val, by omega⟩ n))
            i p ⟨dy, hy⟩ ⟨dx, hx⟩ := by
  rw [s_step]
  refine congrArg _ (Finset.sum_congr rfl fun c _ => ?_)
  rw [s_image x dx dy hx hy, s_weight w dx dy hx hy]

/-- The accumulator of the 960-channel input after its nine window products. -/
def acc960 (x : Vec Ideal S1x24x32x960 .fp8e4m3) (w : Vec Ideal S3x3x1280x640 .fp8e4m3) :
    Vec Ideal S768x640 .f32 :=
  k0_pay48 (k0_pay47 (View.ld (XP x) (Rect.unit ![2, 2, 0, 0] ![1, 24, 32, 960] inb_S3x26x32x960_S1x24x32x960_2_2_0_0)))
    (k0_pay45 (View.ld (XP x) (Rect.unit ![2, 1, 0, 0] ![1, 24, 32, 960] inb_S3x26x32x960_S1x24x32x960_2_1_0_0))
    (k0_pay43 (View.ld (XP x) (Rect.unit ![2, 0, 0, 0] ![1, 24, 32, 960] inb_S3x26x32x960_S1x24x32x960_2_0_0_0))
    (k0_pay40 (View.ld (XP x) (Rect.unit ![1, 2, 0, 0] ![1, 24, 32, 960] inb_S3x26x32x960_S1x24x32x960_1_2_0_0))
    (k0_pay37 (View.ld (XP x) (Rect.unit ![1, 1, 0, 0] ![1, 24, 32, 960] inb_S3x26x32x960_S1x24x32x960_1_1_0_0))
    (k0_pay34 (k0_pay32 (View.ld (XP x) (Rect.unit ![1, 0, 0, 0] ![1, 24, 32, 960] inb_S3x26x32x960_S1x24x32x960_1_0_0_0)))
    (k0_pay30 (k0_pay29 (View.ld (XP x) (Rect.unit ![0, 2, 0, 0] ![1, 24, 32, 960] inb_S3x26x32x960_S1x24x32x960_0_2_0_0)))
    (k0_pay27 (View.ld (XP x) (Rect.unit ![0, 1, 0, 0] ![1, 24, 32, 960] inb_S3x26x32x960_S1x24x32x960_0_1_0_0))
    (k0_pay25 (View.ld (XP x) (Rect.unit ![0, 0, 0, 0] ![1, 24, 32, 960] inb_S3x26x32x960_S1x24x32x960_0_0_0_0)) (k0_pay23 (F := Ideal)) (View.ld w (Rect.unit ![0, 0, 0, 0] ![1, 1, 960, 640] inb_S3x3x1280x640_S1x1x960x640_0_0_0_0))) (View.ld w (Rect.unit ![1, 0, 0, 0] ![1, 1, 960, 640] inb_S3x3x1280x640_S1x1x960x640_1_0_0_0))) (View.ld w (Rect.unit ![2, 0, 0, 0] ![1, 1, 960, 640] inb_S3x3x1280x640_S1x1x960x640_2_0_0_0))) (View.ld w (Rect.unit ![0, 1, 0, 0] ![1, 1, 960, 640] inb_S3x3x1280x640_S1x1x960x640_0_1_0_0))) (View.ld w (Rect.unit ![1, 1, 0, 0] ![1, 1, 960, 640] inb_S3x3x1280x640_S1x1x960x640_1_1_0_0))) (View.ld w (Rect.unit ![2, 1, 0, 0] ![1, 1, 960, 640] inb_S3x3x1280x640_S1x1x960x640_2_1_0_0))) (View.ld w (Rect.unit ![0, 2, 0, 0] ![1, 1, 960, 640] inb_S3x3x1280x640_S1x1x960x640_0_2_0_0))) (View.ld w (Rect.unit ![1, 2, 0, 0] ![1, 1, 960, 640] inb_S3x3x1280x640_S1x1x960x640_1_2_0_0))) (View.ld w (Rect.unit ![2, 2, 0, 0] ![1, 1, 960, 640] inb_S3x3x1280x640_S1x1x960x640_2_2_0_0))

/-- The nine steps are one operation, printed under several names. -/
theorem acc960_same (x : Vec Ideal S1x24x32x960 .fp8e4m3) (w : Vec Ideal S3x3x1280x640 .fp8e4m3) :
    acc960 x w =
  k0_pay25 (View.ld (XP x) (Rect.unit ![2, 2, 0, 0] ![1, 24, 32, 960] inb_S3x26x32x960_S1x24x32x960_2_2_0_0))
    (k0_pay25 (View.ld (XP x) (Rect.unit ![2, 1, 0, 0] ![1, 24, 32, 960] inb_S3x26x32x960_S1x24x32x960_2_1_0_0))
    (k0_pay25 (View.ld (XP x) (Rect.unit ![2, 0, 0, 0] ![1, 24, 32, 960] inb_S3x26x32x960_S1x24x32x960_2_0_0_0))
    (k0_pay25 (View.ld (XP x) (Rect.unit ![1, 2, 0, 0] ![1, 24, 32, 960] inb_S3x26x32x960_S1x24x32x960_1_2_0_0))
    (k0_pay25 (View.ld (XP x) (Rect.unit ![1, 1, 0, 0] ![1, 24, 32, 960] inb_S3x26x32x960_S1x24x32x960_1_1_0_0))
    (k0_pay25 (View.ld (XP x) (Rect.unit ![1, 0, 0, 0] ![1, 24, 32, 960] inb_S3x26x32x960_S1x24x32x960_1_0_0_0))
    (k0_pay25 (View.ld (XP x) (Rect.unit ![0, 2, 0, 0] ![1, 24, 32, 960] inb_S3x26x32x960_S1x24x32x960_0_2_0_0))
    (k0_pay25 (View.ld (XP x) (Rect.unit ![0, 1, 0, 0] ![1, 24, 32, 960] inb_S3x26x32x960_S1x24x32x960_0_1_0_0))
    (k0_pay25 (View.ld (XP x) (Rect.unit ![0, 0, 0, 0] ![1, 24, 32, 960] inb_S3x26x32x960_S1x24x32x960_0_0_0_0)) (k0_pay23 (F := Ideal)) (View.ld w (Rect.unit ![0, 0, 0, 0] ![1, 1, 960, 640] inb_S3x3x1280x640_S1x1x960x640_0_0_0_0))) (View.ld w (Rect.unit ![1, 0, 0, 0] ![1, 1, 960, 640] inb_S3x3x1280x640_S1x1x960x640_1_0_0_0))) (View.ld w (Rect.unit ![2, 0, 0, 0] ![1, 1, 960, 640] inb_S3x3x1280x640_S1x1x960x640_2_0_0_0))) (View.ld w (Rect.unit ![0, 1, 0, 0] ![1, 1, 960, 640] inb_S3x3x1280x640_S1x1x960x640_0_1_0_0))) (View.ld w (Rect.unit ![1, 1, 0, 0] ![1, 1, 960, 640] inb_S3x3x1280x640_S1x1x960x640_1_1_0_0))) (View.ld w (Rect.unit ![2, 1, 0, 0] ![1, 1, 960, 640] inb_S3x3x1280x640_S1x1x960x640_2_1_0_0))) (View.ld w (Rect.unit ![0, 2, 0, 0] ![1, 1, 960, 640] inb_S3x3x1280x640_S1x1x960x640_0_2_0_0))) (View.ld w (Rect.unit ![1, 2, 0, 0] ![1, 1, 960, 640] inb_S3x3x1280x640_S1x1x960x640_1_2_0_0))) (View.ld w (Rect.unit ![2, 2, 0, 0] ![1, 1, 960, 640] inb_S3x3x1280x640_S1x1x960x640_2_2_0_0)) := rfl

/-- The accumulator starts at zero. -/
theorem zero960 (j : S768x640.Idx) : k0_pay23 (F := Ideal) j = 0 := by
  unfold k0_pay23
  pointwise

/-- The nine steps together are the convolution. -/
theorem acc960_at (x : Vec Ideal S1x24x32x960 .fp8e4m3) (w : Vec Ideal S3x3x1280x640 .fp8e4m3)
    (i : Fin 24) (p : Fin 32) (n : Fin 640) :
    acc960 x w (ix2 ⟨i.val * 32 + p.val, by omega⟩ n) =
      conv (fun a b c => x (ix4 0 a b c)) (fun y x c => w (ix4 y x ⟨0 + c.val, by omega⟩ n)) i p := by
  rw [acc960_same, x_tap x w _ 2 2 (by decide) (by decide), x_tap x w _ 2 1 (by decide) (by decide), x_tap x w _ 2 0 (by decide) (by decide), x_tap x w _ 1 2 (by decide) (by decide), x_tap x w _ 1 1 (by decide) (by decide), x_tap x w _ 1 0 (by decide) (by decide), x_tap x w _ 0 2 (by decide) (by decide), x_tap x w _ 0 1 (by decide) (by decide), x_tap x w _ 0 0 (by decide) (by decide), zero960, zero_add]
  unfold conv
  rw [Fin.sum_univ_three, Fin.sum_univ_three, Fin.sum_univ_three, Fin.sum_univ_three]
  simp only [add_assoc]
  rfl

/-- The accumulator of the 320-channel input after its nine window products. -/
def acc320 (x : Vec Ideal S1x24x32x320 .fp8e4m3) (w : Vec Ideal S3x3x1280x640 .fp8e4m3) :
    Vec Ideal S768x640 .f32 :=
  k0_pay49 (View.ld (SP x) (Rect.unit ![2, 2, 0, 0] ![1, 24, 32, 320] inb_S3x26x32x320_S1x24x32x320_2_2_0_0))
    (k0_pay46 (View.ld (SP x) (Rect.unit ![2, 1, 0, 0] ![1, 24, 32, 320] inb_S3x26x32x320_S1x24x32x320_2_1_0_0))
    (k0_pay44 (View.ld (SP x) (Rect.unit ![2, 0, 0, 0] ![1, 24, 32, 320] inb_S3x26x32x320_S1x24x32x320_2_0_0_0))
    (k0_pay42 (k0_pay39 (View.ld (SP x) (Rect.unit ![1, 2, 0, 0] ![1, 24, 32, 320] inb_S3x26x32x320_S1x24x32x320_1_2_0_0)))
    (k0_pay38 (k0_pay36 (View.ld (SP x) (Rect.unit ![1, 1, 0, 0] ![1, 24, 32, 320] inb_S3x26x32x320_S1x24x32x320_1_1_0_0)))
    (k0_pay35 (k0_pay33 (View.ld (SP x) (Rect.unit ![1, 0, 0, 0] ![1, 24, 32, 320] inb_S3x26x32x320_S1x24x32x320_1_0_0_0)))
    (k0_pay31 (View.ld (SP x) (Rect.unit ![0, 2, 0, 0] ![1, 24, 32, 320] inb_S3x26x32x320_S1x24x32x320_0_2_0_0))
    (k0_pay28 (View.ld (SP x) (Rect.unit ![0, 1, 0, 0] ![1, 24, 32, 320] inb_S3x26x32x320_S1x24x32x320_0_1_0_0))
    (k0_pay26 (View.ld (SP x) (Rect.unit ![0, 0, 0, 0] ![1, 24, 32, 320] inb_S3x26x32x320_S1x24x32x320_0_0_0_0)) (k0_pay24 (F := Ideal)) (View.ld w (Rect.unit ![0, 0, 960, 0] ![1, 1, 320, 640] inb_S3x3x1280x640_S1x1x320x640_0_0_960_0))) (View.ld w (Rect.unit ![1, 0, 960, 0] ![1, 1, 320, 640] inb_S3x3x1280x640_S1x1x320x640_1_0_960_0))) (View.ld w (Rect.unit ![2, 0, 960, 0] ![1, 1, 320, 640] inb_S3x3x1280x640_S1x1x320x640_2_0_960_0))) (View.ld w (Rect.unit ![0, 1, 960, 0] ![1, 1, 320, 640] inb_S3x3x1280x640_S1x1x320x640_0_1_960_0))) (View.ld w (Rect.unit ![1, 1, 960, 0] ![1, 1, 320, 640] inb_S3x3x1280x640_S1x1x320x640_1_1_960_0))) (k0_pay41 (View.ld w (Rect.unit ![2, 1, 960, 0] ![1, 1, 320, 640] inb_S3x3x1280x640_S1x1x320x640_2_1_960_0)))) (View.ld w (Rect.unit ![0, 2, 960, 0] ![1, 1, 320, 640] inb_S3x3x1280x640_S1x1x320x640_0_2_960_0))) (View.ld w (Rect.unit ![1, 2, 960, 0] ![1, 1, 320, 640] inb_S3x3x1280x640_S1x1x320x640_1_2_960_0))) (View.ld w (Rect.unit ![2, 2, 960, 0] ![1, 1, 320, 640] inb_S3x3x1280x640_S1x1x320x640_2_2_960_0))

/-- The nine steps are one operation, printed under several names. -/
theorem acc320_same (x : Vec Ideal S1x24x32x320 .fp8e4m3) (w : Vec Ideal S3x3x1280x640 .fp8e4m3) :
    acc320 x w =
  k0_pay26 (View.ld (SP x) (Rect.unit ![2, 2, 0, 0] ![1, 24, 32, 320] inb_S3x26x32x320_S1x24x32x320_2_2_0_0))
    (k0_pay26 (View.ld (SP x) (Rect.unit ![2, 1, 0, 0] ![1, 24, 32, 320] inb_S3x26x32x320_S1x24x32x320_2_1_0_0))
    (k0_pay26 (View.ld (SP x) (Rect.unit ![2, 0, 0, 0] ![1, 24, 32, 320] inb_S3x26x32x320_S1x24x32x320_2_0_0_0))
    (k0_pay26 (View.ld (SP x) (Rect.unit ![1, 2, 0, 0] ![1, 24, 32, 320] inb_S3x26x32x320_S1x24x32x320_1_2_0_0))
    (k0_pay26 (View.ld (SP x) (Rect.unit ![1, 1, 0, 0] ![1, 24, 32, 320] inb_S3x26x32x320_S1x24x32x320_1_1_0_0))
    (k0_pay26 (View.ld (SP x) (Rect.unit ![1, 0, 0, 0] ![1, 24, 32, 320] inb_S3x26x32x320_S1x24x32x320_1_0_0_0))
    (k0_pay26 (View.ld (SP x) (Rect.unit ![0, 2, 0, 0] ![1, 24, 32, 320] inb_S3x26x32x320_S1x24x32x320_0_2_0_0))
    (k0_pay26 (View.ld (SP x) (Rect.unit ![0, 1, 0, 0] ![1, 24, 32, 320] inb_S3x26x32x320_S1x24x32x320_0_1_0_0))
    (k0_pay26 (View.ld (SP x) (Rect.unit ![0, 0, 0, 0] ![1, 24, 32, 320] inb_S3x26x32x320_S1x24x32x320_0_0_0_0)) (k0_pay24 (F := Ideal)) (View.ld w (Rect.unit ![0, 0, 960, 0] ![1, 1, 320, 640] inb_S3x3x1280x640_S1x1x320x640_0_0_960_0))) (View.ld w (Rect.unit ![1, 0, 960, 0] ![1, 1, 320, 640] inb_S3x3x1280x640_S1x1x320x640_1_0_960_0))) (View.ld w (Rect.unit ![2, 0, 960, 0] ![1, 1, 320, 640] inb_S3x3x1280x640_S1x1x320x640_2_0_960_0))) (View.ld w (Rect.unit ![0, 1, 960, 0] ![1, 1, 320, 640] inb_S3x3x1280x640_S1x1x320x640_0_1_960_0))) (View.ld w (Rect.unit ![1, 1, 960, 0] ![1, 1, 320, 640] inb_S3x3x1280x640_S1x1x320x640_1_1_960_0))) (View.ld w (Rect.unit ![2, 1, 960, 0] ![1, 1, 320, 640] inb_S3x3x1280x640_S1x1x320x640_2_1_960_0))) (View.ld w (Rect.unit ![0, 2, 960, 0] ![1, 1, 320, 640] inb_S3x3x1280x640_S1x1x320x640_0_2_960_0))) (View.ld w (Rect.unit ![1, 2, 960, 0] ![1, 1, 320, 640] inb_S3x3x1280x640_S1x1x320x640_1_2_960_0))) (View.ld w (Rect.unit ![2, 2, 960, 0] ![1, 1, 320, 640] inb_S3x3x1280x640_S1x1x320x640_2_2_960_0)) := rfl

/-- The accumulator starts at zero. -/
theorem zero320 (j : S768x640.Idx) : k0_pay24 (F := Ideal) j = 0 := by
  unfold k0_pay24
  pointwise

/-- The nine steps together are the convolution. -/
theorem acc320_at (x : Vec Ideal S1x24x32x320 .fp8e4m3) (w : Vec Ideal S3x3x1280x640 .fp8e4m3)
    (i : Fin 24) (p : Fin 32) (n : Fin 640) :
    acc320 x w (ix2 ⟨i.val * 32 + p.val, by omega⟩ n) =
      conv (fun a b c => x (ix4 0 a b c)) (fun y x c => w (ix4 y x ⟨960 + c.val, by omega⟩ n)) i p := by
  rw [acc320_same, s_tap x w _ 2 2 (by decide) (by decide), s_tap x w _ 2 1 (by decide) (by decide), s_tap x w _ 2 0 (by decide) (by decide), s_tap x w _ 1 2 (by decide) (by decide), s_tap x w _ 1 1 (by decide) (by decide), s_tap x w _ 1 0 (by decide) (by decide), s_tap x w _ 0 2 (by decide) (by decide), s_tap x w _ 0 1 (by decide) (by decide), s_tap x w _ 0 0 (by decide) (by decide), zero320, zero_add]
  unfold conv
  rw [Fin.sum_univ_three, Fin.sum_univ_three, Fin.sum_univ_three, Fin.sum_univ_three]
  simp only [add_assoc]
  rfl

/-- The closing lines at one result: the two accumulators, each times its scale, added; the weight scale, the bias and the activation. -/
theorem close (a0 a1 : Vec Ideal S768x640 .f32) (s0 s1 : Ideal .f32) (w b : Vec Ideal S1x640 .f32)
    (z : Fin 1) (i : Fin 24) (p : Fin 32) (n : Fin 640) :
    k0_pay1 (k0_pay50 a0 s0 a1 s1 w) b (ix4 z i p n) =
      silu ((a0 (ix2 ⟨i.val * 32 + p.val, by omega⟩ n) * s0
        + a1 (ix2 ⟨i.val * 32 + p.val, by omega⟩ n) * s1) * w (ix2 0 n) + b (ix2 0 n)) := by
  pointwise [k0_pay1, k0_pay50, silu]

/-- The block the kernel stores, as one function of its six inputs. -/
def block (x0 : Vec Ideal S2 .f32) (x1 : Vec Ideal S1x24x32x960 .fp8e4m3) (x2 : Vec Ideal S1x24x32x320 .fp8e4m3)
    (x3 : Vec Ideal S3x3x1280x640 .fp8e4m3) (x4 x5 : Vec Ideal S1x640 .f32) : Vec Ideal S1x24x32x640 .bf16 := fun j =>
  silu ((conv (fun a b c => x1 (ix4 0 a b c)) (fun y x c => x3 (ix4 y x ⟨0 + c.val, by omega⟩ (j 3))) (j 1) (j 2) * x0 (ix1 0)
    + conv (fun a b c => x2 (ix4 0 a b c)) (fun y x c => x3 (ix4 y x ⟨960 + c.val, by omega⟩ (j 3))) (j 1) (j 2) * x0 (ix1 1))
      * x4 (ix2 0 (j 3)) + x5 (ix2 0 (j 3)))

/-- A scale, loaded as a scalar. -/
theorem scale_at (x0 : Vec Ideal S2 .f32) (k : Fin 2)
    (inb : ∀ a : Fin S2.rank, ![k.val] a + (![1] : Fin S2.rank → ℕ) a ≤ S2.size a) (h) :
    View.ld x0 (Rect.unit ![k.val] ![1] inb) (Shape.Idx.first h) = x0 (ix1 k) := by
  refine congrArg x0 ?_
  funext a
  apply Fin.ext
  match a with
  | ⟨0, _⟩ => rfl

/-- What the kernel's body stores in its output block is `block` of its inputs. -/
theorem out_eq (c : Dev nD) (i : grid0.Coords) (arg1 : Memref sig .tc .smem S2 .f32) (harg1 : arg1.IsWhole) (arg2 : Memref sig .tc .vmem S1x24x32x960 .fp8e4m3) (harg2 : arg2.IsWhole) (arg3 : Memref sig .tc .vmem S1x24x32x320 .fp8e4m3) (harg3 : arg3.IsWhole) (arg4 : Memref sig .tc .vmem S3x3x1280x640 .fp8e4m3) (harg4 : arg4.IsWhole) (arg5 : Memref sig .tc .vmem S1x640 .f32) (harg5 : arg5.IsWhole) (arg6 : Memref sig .tc .vmem S1x640 .f32) (harg6 : arg6.IsWhole) (arg7 : Memref sig .tc .vmem S1x24x32x640 .bf16) (harg7 : arg7.IsWhole) (arg8 : Memref sig .tc .vmem S3x26x32x960 .fp8e4m3) (harg8 : arg8.IsWhole) (arg9 : Memref sig .tc .vmem S3x26x32x320 .fp8e4m3) (harg9 : arg9.IsWhole) (arg10 : Memref sig .tc .vmem S768x640 .f32) (harg10 : arg10.IsWhole) (arg11 : Memref sig .tc .vmem S768x640 .f32) (harg11 : arg11.IsWhole)
    (x0 : Vec Ideal S2 .f32) (x1 : Vec Ideal S1x24x32x960 .fp8e4m3) (x2 : Vec Ideal S1x24x32x320 .fp8e4m3) (x3 : Vec Ideal S3x3x1280x640 .fp8e4m3) (x4 : Vec Ideal S1x640 .f32) (x5 : Vec Ideal S1x640 .f32)  :
    out0_A_6 c i arg1 harg1 arg2 harg2 arg3 harg3 arg4 harg4 arg5 harg5 arg6 harg6 arg7 harg7 arg8 harg8 arg9 harg9 arg10 harg10 arg11 harg11 x0 x1 x2 x3 x4 x5 = block x0 x1 x2 x3 x4 x5 := by
  frame_open
  have hx := fun r => XP_read arg8.view x1 r
  have hs := fun r => SP_read arg9.view x2 r
  simp only [XP_pieces, SP_pieces] at hx hs
  simp (disch := decide) only [View.read_writes_junk_eq_canon, View.canon_cons_unit_lit',
        View.ld_unit_lit', View.readCov_unit_lit', View.readCov_cons_unit_lit', View.readAt_eq_ld,
        Memref.IsWhole.read_unread, hx, hs]
  have e0 := scale_at x0 0 inb_S2_S1_0 (by decide)
  have e1 := scale_at x0 1 inb_S2_S1_1 (by decide)
  funext j
  idx_vars j
  refine (close (acc960 x1 x3) (acc320 x2 x3) _ _ x4 x5 _ _ _ _).trans ?_
  rw [acc960_at, acc320_at]
  exact congrArg₂ (fun a b => silu ((_ * a + _ * b) * _ + _)) e0 e1

end Cert.Proof.K

end
-- ==== Proof.KernelValue.lean ====
/- Hand-written, untrusted: WHAT THE KERNEL'S RESULT ARRAY HOLDS after the run. Grid point `t` writes image `t`; its block is
   the one of KernelBlock.lean, at the input images `t`, the weights, and the scales and biases that the host lines lay out. -/
module

public import proofs.«01_k».proof.Proof.KernelBlock
public import Idealize.ShloMosaic.Lib.StableHlo.Run

@[expose] public section

set_option maxRecDepth 16384

noncomputable section

namespace Cert.Proof.K

open Cert.KernelIdeal Cert.KernelIdeal.Gen Idealize.ShloMosaic Idealize.ShloMosaic.TcCoe Idealize.SL.Sem
open Cert.Proof.Pad

variable (m : (ℓ : Loc nD τ sig) → Buf (Elt Ideal) ℓ)

/-! ## What the host lines leave -/

/-- The two scales, one behind the other. -/
def scales (a b : FVec Ideal S_ .f32) : FVec Ideal S2 .f32 :=
  extf .f32 (truncf .bf16 (concatenate S2 0
    [⟨S1, broadcastInDim S1 ![] bcast_S_S1 a⟩, ⟨S1, broadcastInDim S1 ![] bcast_S_S1 b⟩]
    concatenates_S1_S1_S2_d0) bitsLt_bf16_f32) bitsLt_bf16_f32

/-- The host lines leave the two scales' array. -/
theorem V_scales (c : Dev nD) : V (F := Ideal) m c main_v4 =
    scales (m ((c : Thread nD τ).loc main_arg1)) (m ((c : Thread nD τ).loc main_arg3)) := by
  unfold_abbrev_sides
  after_results
  rfl

/-- Its first entry is the image's scale. -/
theorem scales_left (a b : FVec Ideal S_ .f32) : scales a b (ix1 0) = a ix0 := by
  pointwise [scales]

/-- Its second entry is the skip image's scale. -/
theorem scales_right (a b : FVec Ideal S_ .f32) : scales a b (ix1 1) = b ix0 := by
  pointwise [scales]

/-- The first scale, of the arguments. -/
theorem V_scale0 (c : Dev nD) : V (F := Ideal) m c main_v4 (ix1 0) = m ((c : Thread nD τ).loc main_arg1) ix0 := by
  rw [V_scales]
  exact scales_left _ _

/-- The second scale, of the arguments. -/
theorem V_scale1 (c : Dev nD) : V (F := Ideal) m c main_v4 (ix1 1) = m ((c : Thread nD τ).loc main_arg3) ix0 := by
  rw [V_scales]
  exact scales_right _ _

/-- The weights' scales, as one row. -/
theorem V_ws (c : Dev nD) (n : Fin 640) : V (F := Ideal) m c main_v5 (ix2 0 n) = m ((c : Thread nD τ).loc main_arg5) (ix1 n) := by
  have e : (V (F := Ideal) m c main_v5 : FVec Ideal S1x640 .f32) =
      shapeCast S1x640 (m ((c : Thread nD τ).loc main_arg5) : FVec Ideal S640 .f32) shapeCasts_S640_S1x640 := by
    unfold_abbrev_sides
    after_results
    rfl
  rw [e]
  pointwise

/-- The biases, as one row. -/
theorem V_bias (c : Dev nD) (n : Fin 640) : V (F := Ideal) m c main_v6 (ix2 0 n) = m ((c : Thread nD τ).loc main_arg6) (ix1 n) := by
  have e : (V (F := Ideal) m c main_v6 : FVec Ideal S1x640 .f32) =
      shapeCast S1x640 (m ((c : Thread nD τ).loc main_arg6) : FVec Ideal S640 .f32) shapeCasts_S640_S1x640 := by
    unfold_abbrev_sides
    after_results
    rfl
  rw [e]
  pointwise

/-! ## The blocks -/

/-- The result array of the specification, of the arguments as launched. -/
def out (c : Dev nD) : Buf (Elt Ideal) ((c : Thread nD τ).loc main_v7) := fun j =>
  result (fun b i p k => m ((c : Thread nD τ).loc main_arg0) (ix4 b i p k)) (m ((c : Thread nD τ).loc main_arg1) ix0)
    (fun b i p k => m ((c : Thread nD τ).loc main_arg2) (ix4 b i p k)) (m ((c : Thread nD τ).loc main_arg3) ix0)
    (fun y x k n => m ((c : Thread nD τ).loc main_arg4) (ix4 y x k n))
    (fun n => m ((c : Thread nD τ).loc main_arg5) (ix1 n)) (fun n => m ((c : Thread nD τ).loc main_arg6) (ix1 n))
    (j 0) (j 1) (j 2) (j 3)

/-- The grid point's image. -/
def image (t : Fin cfg0.N) : Fin 2 := ⟨t.val, by have := t.isLt; have := N_0; change t.val < grid0.N at *; omega⟩

/-- The scales' block is the scales' array. -/
theorem iblk0 (c : Dev nD) (t : Fin cfg0.N) (k : Fin 2) : iblk m c 0 t (ix1 k) = V (F := Ideal) m c main_v4 (ix1 k) := by
  rcases fin_N0 t with rfl | rfl <;> refine congrArg (V (F := Ideal) m c main_v4) ?_ <;> funext a <;> apply Fin.ext <;>
    match a with | ⟨0, _⟩ => show 0 + 1 * k.val = k.val; omega

/-- The image's block at a grid point is the point's image. -/
theorem iblk1 (c : Dev nD) (t : Fin cfg0.N) (i : Fin 24) (p : Fin 32) (k : Fin 960) :
    iblk m c 1 t (ix4 0 i p k) = m ((c : Thread nD τ).loc main_arg0) (ix4 (image t) i p k) := by
  rw [← V_main_arg0 m c]
  rcases fin_N0 t with rfl | rfl <;> refine congrArg (V (F := Ideal) m c main_arg0) ?_ <;> funext a <;> apply Fin.ext <;>
    match a with
    | ⟨0, _⟩ => rfl
    | ⟨1, _⟩ => show 0 + 1 * i.val = i.val; omega
    | ⟨2, _⟩ => show 0 + 1 * p.val = p.val; omega
    | ⟨3, _⟩ => show 0 + 1 * k.val = k.val; omega

/-- The skip image's block at a grid point is the point's skip image. -/
theorem iblk2 (c : Dev nD) (t : Fin cfg0.N) (i : Fin 24) (p : Fin 32) (k : Fin 320) :
    iblk m c 2 t (ix4 0 i p k) = m ((c : Thread nD τ).loc main_arg2) (ix4 (image t) i p k) := by
  rw [← V_main_arg2 m c]
  rcases fin_N0 t with rfl | rfl <;> refine congrArg (V (F := Ideal) m c main_arg2) ?_ <;> funext a <;> apply Fin.ext <;>
    match a with
    | ⟨0, _⟩ => rfl
    | ⟨1, _⟩ => show 0 + 1 * i.val = i.val; omega
    | ⟨2, _⟩ => show 0 + 1 * p.val = p.val; omega
    | ⟨3, _⟩ => show 0 + 1 * k.val = k.val; omega

/-- The weights' block is all the weights. -/
theorem iblk3 (c : Dev nD) (t : Fin cfg0.N) (y x : Fin 3) (k : Fin 1280) (n : Fin 640) :
    iblk m c 3 t (ix4 y x k n) = m ((c : Thread nD τ).loc main_arg4) (ix4 y x k n) := by
  rw [← V_main_arg4 m c]
  rcases fin_N0 t with rfl | rfl <;> refine congrArg (V (F := Ideal) m c main_arg4) ?_ <;> funext a <;> apply Fin.ext <;>
    match a with
    | ⟨0, _⟩ => show 0 + 1 * y.val = y.val; omega
    | ⟨1, _⟩ => show 0 + 1 * x.val = x.val; omega
    | ⟨2, _⟩ => show 0 + 1 * k.val = k.val; omega
    | ⟨3, _⟩ => show 0 + 1 * n.val = n.val; omega

/-- The weight scales' block is all of them. -/
theorem iblk4 (c : Dev nD) (t : Fin cfg0.N) (n : Fin 640) :
    iblk m c 4 t (ix2 0 n) = m ((c : Thread nD τ).loc main_arg5) (ix1 n) := by
  rw [← V_ws m c n]
  rcases fin_N0 t with rfl | rfl <;> refine congrArg (V (F := Ideal) m c main_v5) ?_ <;> funext a <;> apply Fin.ext <;>
    match a with
    | ⟨0, _⟩ => rfl
    | ⟨1, _⟩ => show 0 + 1 * n.val = n.val; omega

/-- The biases' block is all of them. -/
theorem iblk5 (c : Dev nD) (t : Fin cfg0.N) (n : Fin 640) :
    iblk m c 5 t (ix2 0 n) = m ((c : Thread nD τ).loc main_arg6) (ix1 n) := by
  rw [← V_bias m c n]
  rcases fin_N0 t with rfl | rfl <;> refine congrArg (V (F := Ideal) m c main_v6) ?_ <;> funext a <;> apply Fin.ext <;>
    match a with
    | ⟨0, _⟩ => rfl
    | ⟨1, _⟩ => show 0 + 1 * n.val = n.val; omega

/-- A block computed from blocks of the arguments is the specification at the block's image. -/
theorem block_result {x0 : Vec Ideal S2 .f32} {x1 : Vec Ideal S1x24x32x960 .fp8e4m3} {x2 : Vec Ideal S1x24x32x320 .fp8e4m3}
    {x3 : Vec Ideal S3x3x1280x640 .fp8e4m3} {x4 x5 : Vec Ideal S1x640 .f32}
    {x : Fin 2 → Fin 24 → Fin 32 → Fin 960 → EReal} {xs : EReal} {s : Fin 2 → Fin 24 → Fin 32 → Fin 320 → EReal} {ss : EReal}
    {w : Fin 3 → Fin 3 → Fin 1280 → Fin 640 → EReal} {ws bias : Fin 640 → EReal} {b : Fin 2}
    (h0 : x0 (ix1 0) = xs) (h0' : x0 (ix1 1) = ss) (h1 : ∀ i p k, x1 (ix4 0 i p k) = x b i p k)
    (h2 : ∀ i p k, x2 (ix4 0 i p k) = s b i p k) (h3 : ∀ y x k n, x3 (ix4 y x k n) = w y x k n)
    (h4 : ∀ n, x4 (ix2 0 n) = ws n) (h5 : ∀ n, x5 (ix2 0 n) = bias n) (z : Fin 1) (i : Fin 24) (p : Fin 32) (n : Fin 640) :
    block x0 x1 x2 x3 x4 x5 (ix4 z i p n) = result x xs s ss w ws bias b i p n := by
  have e1 : (fun i p k => x1 (ix4 0 i p k)) = x b := by funext i p k; exact h1 i p k
  have e2 : (fun i p k => x2 (ix4 0 i p k)) = s b := by funext i p k; exact h2 i p k
  have e3 : (fun (y x : Fin 3) (c : Fin 960) => x3 (ix4 y x ⟨0 + c.val, by omega⟩ n)) =
      fun y x c => w y x ⟨c.val, by omega⟩ n := by
    funext y x c
    rw [h3]
    exact congrArg (fun k => w y x k n) (Fin.ext (Nat.zero_add _))
  have e4 : (fun (y x : Fin 3) (c : Fin 320) => x3 (ix4 y x ⟨960 + c.val, by omega⟩ n)) =
      fun y x c => w y x ⟨960 + c.val, by omega⟩ n := by
    funext y x c
    rw [h3]
  show silu ((conv (fun i p k => x1 (ix4 0 i p k)) (fun (y x : Fin 3) (c : Fin 960) => x3 (ix4 y x ⟨0 + c.val, by omega⟩ n)) i p
      * x0 (ix1 0) + conv (fun i p k => x2 (ix4 0 i p k))
        (fun (y x : Fin 3) (c : Fin 320) => x3 (ix4 y x ⟨960 + c.val, by omega⟩ n)) i p * x0 (ix1 1))
      * x4 (ix2 0 n) + x5 (ix2 0 n)) = _
  rw [e1, e2, e3, e4, h0, h0', h4, h5]
  rfl

/-- Reading an array through the grid point's block reads the point's image. -/
theorem read_blk (c : Dev nD) (t : Fin cfg0.N) (g : Buf (Elt Ideal) ((c : Thread nD τ).loc main_v7))
    (z : Fin 1) (i : Fin 24) (p : Fin 32) (n : Fin 640) :
    ((cfg0.win 6).blk t).view.read (Elt Ideal) g (ix4 z i p n) = g (ix4 (image t) i p n) := by
  have hz : z.val = 0 := by omega
  rcases fin_N0 t with rfl | rfl <;> refine congrArg g ?_ <;> funext a <;> apply Fin.ext <;>
    match a with
    | ⟨0, _⟩ => first | (show 0 + 1 * z.val = 0; omega) | (show 1 + 1 * z.val = 1; omega)
    | ⟨1, _⟩ => show 0 + 1 * i.val = i.val; omega
    | ⟨2, _⟩ => show 0 + 1 * p.val = p.val; omega
    | ⟨3, _⟩ => show 0 + 1 * n.val = n.val; omega

/-- What the grid point writes back is its block of the specification. -/
theorem flushed_eq (c : Dev nD) (t : Fin cfg0.N) :
    (dats m 0 c).flushed 6 t = ((cfg0.win 6).blk t).view.read (Elt Ideal) (out m c) := by
  rw [Cert.KernelIdeal.Value.flushed6_A, out_eq]
  have h : ∀ j : S1x24x32x640.Idx, block (iblk m c 0 t) (iblk m c 1 t) (iblk m c 2 t) (iblk m c 3 t) (iblk m c 4 t)
      (iblk m c 5 t) j = ((cfg0.win 6).blk t).view.read (Elt Ideal) (out m c) j := by
    intro j
    idx_vars j
    refine Eq.trans ?_ (read_blk c t (out m c) _ _ _ _).symm
    exact block_result ((iblk0 m c t 0).trans (V_scale0 m c)) ((iblk0 m c t 1).trans (V_scale1 m c)) (iblk1 m c t)
      (iblk2 m c t) (iblk3 m c t) (iblk4 m c t) (iblk5 m c t) _ _ _ _
  exact funext h

/-- The blocks tile the result array. -/
theorem cover (i : S2x24x32x640.Idx) : ∃ t : Fin cfg0.N, (cfg0.win 6).flush t = true ∧ i ∈ ((cfg0.win 6).blk t).view.set := by
  have h0 : (i 0).val < 2 := (i 0).isLt
  have h1 : (i 1).val < 24 := (i 1).isLt
  have h2 : (i 2).val < 32 := (i 2).isLt
  have h3 : (i 3).val < 640 := (i 3).isLt
  have hN : cfg0.N = 2 := N_0
  have e : ∀ t : Fin cfg0.N, win0_6.index t 0 = t.val ∧ win0_6.index t 1 = 0 ∧ win0_6.index t 2 = 0 ∧ win0_6.index t 3 = 0 := by
    intro t
    rcases fin_N0 t with rfl | rfl <;> decide +kernel
  refine ⟨⟨(i 0).val, by omega⟩, flush0_6 _, ?_⟩
  mem_blk [e]
  exact ⟨⟨Nat.le_refl _, Nat.lt_succ_self _⟩, ⟨Nat.zero_le _, h1⟩, ⟨Nat.zero_le _, h2⟩, ⟨Nat.zero_le _, h3⟩⟩

/-- So the result array ends holding the specification. -/
theorem final (c : Dev nD) : (dats m 0 c).arrAt 6 cfg0.N = out m c :=
  (dats m 0 c).arrAt_eq_of_cover 6 (out m c) (fun t _ => flushed_eq m c t) cover

end Cert.Proof.K

end
-- ==== Proof.RefBlock.lean ====
/- Hand-written, untrusted: WHAT THE REFERENCE'S ONE BODY COMPUTES, at one result. It scales and joins the two images, puts a
   ring of zeros around them, lays the nine windows end to end, and multiplies by the weights: a sum over the nine window
   positions and the 1280 channels. -/
module

public import proofs.«01_k».proof.Proof.Gen.ReferenceIdeal.Value
public import proofs.«01_k».proof.Proof.Pad
public import Idealize.ShloMosaic.Lib.Pipeline.ValueKit
public import Idealize.ShloMosaic.Lib.Pointwise

@[expose] public section

set_option maxRecDepth 16384

noncomputable section

namespace Cert.Proof.R

open Cert.ReferenceIdeal Cert.ReferenceIdeal.Gen Idealize.ShloMosaic Idealize.ShloMosaic.TcCoe Idealize.SL.Sem
open Cert.Proof.Pad

/-- The two images, scaled and joined along the channels. -/
def img (x : Vec Ideal S2x24x32x960 .fp8e4m3) (xs : Ideal .f32) (s : Vec Ideal S2x24x32x320 .fp8e4m3) (ss : Ideal .f32) :
    FVec Ideal S2x24x32x1280 .bf16 :=
  concatenate S2x24x32x1280 3
    [⟨S2x24x32x960, mulf (extf .bf16 x bitsLt_fp8e4m3_bf16) (broadcast S2x24x32x960 (Scalar.truncf .bf16 bitsLt_bf16_f32 xs))⟩,
     ⟨S2x24x32x320, mulf (extf .bf16 s bitsLt_fp8e4m3_bf16) (broadcast S2x24x32x320 (Scalar.truncf .bf16 bitsLt_bf16_f32 ss))⟩]
    concatenates_S2x24x32x960_S2x24x32x320_S2x24x32x1280_d3

/-- The first 960 channels are the first image, scaled. -/
theorem img_left (x : Vec Ideal S2x24x32x960 .fp8e4m3) (xs : Ideal .f32) (s : Vec Ideal S2x24x32x320 .fp8e4m3) (ss : Ideal .f32)
    (b : Fin 2) (i : Fin 24) (p : Fin 32) (c : Fin 960) :
    img x xs s ss (ix4 b i p ⟨c.val, by omega⟩) = x (ix4 b i p c) * xs := by
  have hc := c.isLt
  pointwise [img]

/-- The last 320 channels are the second image, scaled. -/
theorem img_right (x : Vec Ideal S2x24x32x960 .fp8e4m3) (xs : Ideal .f32) (s : Vec Ideal S2x24x32x320 .fp8e4m3) (ss : Ideal .f32)
    (b : Fin 2) (i : Fin 24) (p : Fin 32) (c : Fin 320) :
    img x xs s ss (ix4 b i p ⟨960 + c.val, by omega⟩) = s (ix4 b i p c) * ss := by
  pointwise [img]

/-- The zero of the ring. -/
def z : Ideal .bf16 := Scalar.sitofp .bf16 0#32

/-- The padding's zero is zero. -/
theorem z_eq : z = (0 : EReal) := by
  show (((0#32 : BitVec 32).toInt : ℝ) : EReal) = 0
  simp

/-- A row of zeros above and a row of zeros below. -/
def rows (a : FVec Ideal S2x24x32x1280 .bf16) : FVec Ideal S2x26x32x1280 .bf16 :=
  concatenate S2x26x32x1280 1
    [⟨S2x25x32x1280, concatenate S2x25x32x1280 1 [⟨S2x1x32x1280, broadcast S2x1x32x1280 z⟩, ⟨S2x24x32x1280, a⟩]
      concatenates_S2x1x32x1280_S2x24x32x1280_S2x25x32x1280_d1⟩, ⟨S2x1x32x1280, broadcast S2x1x32x1280 z⟩]
    concatenates_S2x25x32x1280_S2x1x32x1280_S2x26x32x1280_d1

/-- A pixel of zeros on the left and one on the right of every row. -/
def columns (a : FVec Ideal S2x26x32x1280 .bf16) : FVec Ideal S2x26x34x1280 .bf16 :=
  concatenate S2x26x34x1280 2
    [⟨S2x26x33x1280, concatenate S2x26x33x1280 2 [⟨S2x26x1x1280, broadcast S2x26x1x1280 z⟩, ⟨S2x26x32x1280, a⟩]
      concatenates_S2x26x1x1280_S2x26x32x1280_S2x26x33x1280_d2⟩, ⟨S2x26x1x1280, broadcast S2x26x1x1280 z⟩]
    concatenates_S2x26x33x1280_S2x26x1x1280_S2x26x34x1280_d2

/-- With its rows and columns of zeros, the image is the padded image. -/
theorem ring_at (a : FVec Ideal S2x24x32x1280 .bf16) (b : Fin 2) (r : Fin 26) (q : Fin 34) (c : Fin 1280) :
    columns (rows a) (ix4 b r q c) = Pad.pad (fun i p => a (ix4 b i p c)) r.val q.val := by
  have hr := r.isLt
  have hq := q.isLt
  pointwise [columns, rows, z_eq]
  unfold Pad.pad
  split_ifs
  all_goals first
    | rfl
    | exact absurd ‹_ ∧ _› (by omega)
    | rw [dif_pos (by omega)]
    | exact absurd rfl ‹_›

/-- A window of the padded image reads it `dy` rows down and `dx` pixels to the right. -/
theorem slice_at (v : FVec Ideal S2x26x34x1280 .bf16) (dy dx : ℕ) (hy : dy < 3) (hx : dx < 3)
    (h : S2x26x34x1280.Slices ![0, dy, dx, 0] S2x24x32x1280) (b : Fin 2) (i : Fin 24) (p : Fin 32) (c : Fin 1280) :
    extractStridedSlice S2x24x32x1280 ![0, dy, dx, 0] v h (ix4 b i p c) =
      v (ix4 b ⟨dy + i.val, by omega⟩ ⟨dx + p.val, by omega⟩ c) := by
  pointwise

/-- The nine windows. -/
def window (v : FVec Ideal S2x26x34x1280 .bf16) : Fin 9 → FVec Ideal S2x24x32x1280 .bf16 :=
  ![extractStridedSlice S2x24x32x1280 ![0, 0, 0, 0] v slices_S2x26x34x1280_o0_0_0_0_S2x24x32x1280,
    extractStridedSlice S2x24x32x1280 ![0, 0, 1, 0] v slices_S2x26x34x1280_o0_0_1_0_S2x24x32x1280,
    extractStridedSlice S2x24x32x1280 ![0, 0, 2, 0] v slices_S2x26x34x1280_o0_0_2_0_S2x24x32x1280,
    extractStridedSlice S2x24x32x1280 ![0, 1, 0, 0] v slices_S2x26x34x1280_o0_1_0_0_S2x24x32x1280,
    extractStridedSlice S2x24x32x1280 ![0, 1, 1, 0] v slices_S2x26x34x1280_o0_1_1_0_S2x24x32x1280,
    extractStridedSlice S2x24x32x1280 ![0, 1, 2, 0] v slices_S2x26x34x1280_o0_1_2_0_S2x24x32x1280,
    extractStridedSlice S2x24x32x1280 ![0, 2, 0, 0] v slices_S2x26x34x1280_o0_2_0_0_S2x24x32x1280,
    extractStridedSlice S2x24x32x1280 ![0, 2, 1, 0] v slices_S2x26x34x1280_o0_2_1_0_S2x24x32x1280,
    extractStridedSlice S2x24x32x1280 ![0, 2, 2, 0] v slices_S2x26x34x1280_o0_2_2_0_S2x24x32x1280]

/-- One of the nine windows, at one pixel and channel. -/
theorem window_at (v : FVec Ideal S2x26x34x1280 .bf16) (y x : Fin 3) (b : Fin 2) (i : Fin 24) (p : Fin 32) (c : Fin 1280) :
    window v ⟨y.val * 3 + x.val, by omega⟩ (ix4 b i p c) =
      v (ix4 b ⟨y.val + i.val, by omega⟩ ⟨x.val + p.val, by omega⟩ c) := by
  match y, x with
  | 0, 0 => exact slice_at v 0 0 (by decide) (by decide) slices_S2x26x34x1280_o0_0_0_0_S2x24x32x1280 b i p c
  | 0, 1 => exact slice_at v 0 1 (by decide) (by decide) slices_S2x26x34x1280_o0_0_1_0_S2x24x32x1280 b i p c
  | 0, 2 => exact slice_at v 0 2 (by decide) (by decide) slices_S2x26x34x1280_o0_0_2_0_S2x24x32x1280 b i p c
  | 1, 0 => exact slice_at v 1 0 (by decide) (by decide) slices_S2x26x34x1280_o0_1_0_0_S2x24x32x1280 b i p c
  | 1, 1 => exact slice_at v 1 1 (by decide) (by decide) slices_S2x26x34x1280_o0_1_1_0_S2x24x32x1280 b i p c
  | 1, 2 => exact slice_at v 1 2 (by decide) (by decide) slices_S2x26x34x1280_o0_1_2_0_S2x24x32x1280 b i p c
  | 2, 0 => exact slice_at v 2 0 (by decide) (by decide) slices_S2x26x34x1280_o0_2_0_0_S2x24x32x1280 b i p c
  | 2, 1 => exact slice_at v 2 1 (by decide) (by decide) slices_S2x26x34x1280_o0_2_1_0_S2x24x32x1280 b i p c
  | 2, 2 => exact slice_at v 2 2 (by decide) (by decide) slices_S2x26x34x1280_o0_2_2_0_S2x24x32x1280 b i p c

/-- The nine windows end to end. -/
def patches (v : FVec Ideal S2x26x34x1280 .bf16) : FVec Ideal S2x24x32x11520 .bf16 :=
  concatenate S2x24x32x11520 3 (List.ofFn fun n : Fin 9 => (⟨S2x24x32x1280, window v n⟩ : (s : Shape) × (s.Idx → Ideal .bf16)))
    concatenates_S2x24x32x1280_S2x24x32x1280_S2x24x32x1280_S2x24x32x1280_S2x24x32x1280_S2x24x32x1280_S2x24x32x1280_S2x24x32x1280_S2x24x32x1280_S2x24x32x11520_d3

/-- The nine windows laid end to end, at one window position and channel. -/
theorem patches_at (v : FVec Ideal S2x26x34x1280 .bf16) (y x : Fin 3) (b : Fin 2) (i : Fin 24) (p : Fin 32) (c : Fin 1280) :
    patches v (ix4 b i p ⟨(y.val * 3 + x.val) * 1280 + c.val, by omega⟩) =
      v (ix4 b ⟨y.val + i.val, by omega⟩ ⟨x.val + p.val, by omega⟩ c) := by
  refine (Idealize.ShloMosaic.concatenate_ofFn_apply (3 : Fin S2x24x32x11520.rank) (window v) _ rfl 1280 rfl _
    ⟨y.val * 3 + x.val, by omega⟩ ?_ (ix4 b i p c) ?_ ?_).trans (window_at v y x b i p c)
  · show ((y.val * 3 + x.val) * 1280 + c.val) / 1280 = y.val * 3 + x.val
    omega
  · show c.val = ((y.val * 3 + x.val) * 1280 + c.val) % 1280
    omega
  · intro a ha
    match a with
    | 0 => rfl
    | 1 => rfl
    | 2 => rfl
    | 3 => exact absurd rfl ha

/-- The product of the patches with the weights. -/
def product (v : FVec Ideal S2x24x32x11520 .bf16) (w : FVec Ideal S3x3x1280x640 .fp8e4m3) : FVec Ideal S1536x640 .f32 :=
  matmul dot_S1536x11520_S11520x640_S1536x640_1_0_0_1_n_n none
    (shapeCast S1536x11520 v shapeCasts_S2x24x32x11520_S1536x11520)
    (shapeCast S11520x640 (extf .bf16 w bitsLt_fp8e4m3_bf16) shapeCasts_S3x3x1280x640_S11520x640)
    (constant S1536x640 .f32 0x00000000#32)

/-- The product's left operand: pixels in one line. -/
theorem left_at (v : FVec Ideal S2x24x32x11520 .bf16) (b : Fin 2) (i : Fin 24) (p : Fin 32) (k : Fin 11520) :
    shapeCast S1536x11520 v shapeCasts_S2x24x32x11520_S1536x11520 (ix2 ⟨b.val * 768 + i.val * 32 + p.val, by omega⟩ k) =
      v (ix4 b i p k) := by
  pointwise

/-- The product's right operand: window positions and channels in one line. -/
theorem right_at (w : FVec Ideal S3x3x1280x640 .fp8e4m3) (y x : Fin 3) (c : Fin 1280) (n : Fin 640) :
    shapeCast S11520x640 (extf .bf16 w bitsLt_fp8e4m3_bf16) shapeCasts_S3x3x1280x640_S11520x640
      (ix2 ⟨(y.val * 3 + x.val) * 1280 + c.val, by omega⟩ n) = w (ix4 y x c n) := by
  pointwise

/-- The product at one place is a sum over window positions and channels. -/
theorem dot_at (l : FVec Ideal S1536x11520 .bf16) (r : FVec Ideal S11520x640 .bf16) (q : Fin 1536) (n : Fin 640) :
    matmul dot_S1536x11520_S11520x640_S1536x640_1_0_0_1_n_n none l r (constant S1536x640 .f32 0x00000000#32) (ix2 q n) =
      ∑ k : Fin 11520, l (ix2 q k) * r (ix2 k n) := by
  pointwise

/-- The product at one pixel and output channel: the sum over the nine window positions and the 1280 channels. -/
theorem product_at (a : FVec Ideal S2x24x32x1280 .bf16) (w : FVec Ideal S3x3x1280x640 .fp8e4m3) (b : Fin 2) (i : Fin 24)
    (p : Fin 32) (n : Fin 640) :
    product (patches (columns (rows a))) w (ix2 ⟨b.val * 768 + i.val * 32 + p.val, by omega⟩ n) =
      conv (fun i p c => a (ix4 b i p c)) (fun y x c => w (ix4 y x c n)) i p := by
  unfold product conv tap
  rw [dot_at, sum_taps, Finset.sum_comm]
  refine Finset.sum_congr rfl fun x _ => Finset.sum_congr rfl fun y _ => Finset.sum_congr rfl fun c _ => ?_
  rw [left_at, patches_at, right_at, ring_at]
  show Pad.pad _ (y.val + i.val) (x.val + p.val) * _ = _
  rw [Nat.add_comm y.val, Nat.add_comm x.val]

/-- The reference's payloads, at one result. -/
theorem pay_at (x : FVec Ideal S2x24x32x960 .fp8e4m3) (xs : Ideal .f32) (s : FVec Ideal S2x24x32x320 .fp8e4m3) (ss : Ideal .f32)
    (w : FVec Ideal S3x3x1280x640 .fp8e4m3) (ws bias : FVec Ideal S1x640 .f32) (hx0 : (0 : EReal) ≤ xs) (hx1 : xs ≠ (⊤ : EReal))
    (hs0 : (0 : EReal) ≤ ss) (hs1 : ss ≠ (⊤ : EReal)) (b : Fin 2) (i : Fin 24) (p : Fin 32) (n : Fin 640) :
    k0_pay1 (F := Ideal) (k0_pay2 x xs s ss w ws) bias (ix4 b i p n) =
      result (fun b i p c => x (ix4 b i p c)) xs (fun b i p c => s (ix4 b i p c)) ss (fun y x c n => w (ix4 y x c n))
        (fun n => ws (ix2 0 n)) (fun n => bias (ix2 0 n)) b i p n := by
  have e : k0_pay2 (F := Ideal) x xs s ss w ws =
      mulf (product (patches (columns (rows (img x xs s ss)))) w)
        (broadcastTo S1536x640 (shapeCast S1x640 ws shapeCasts_S1x640_S1x640) broadcasts_S1x640_S1536x640) := rfl
  rw [e]
  have h := product_at (img x xs s ss) w b i p n
  rw [conv_split _ (fun i p c => x (ix4 b i p c)) (fun i p c => s (ix4 b i p c)) _ xs ss hx0 hx1 hs0 hs1
    (fun i p c => img_left x xs s ss b i p c) (fun i p c => img_right x xs s ss b i p c)] at h
  generalize product (patches (columns (rows (img x xs s ss)))) w = P at h ⊢
  pointwise [k0_pay1]
  rw [h]
  rfl

end Cert.Proof.R

end
-- ==== Proof.RefValue.lean ====
/- Hand-written, untrusted: WHAT THE REFERENCE'S RESULT ARRAY HOLDS after the run. Its one grid point sees the whole arrays, so
   the array is the body's result at the arguments: the specification of Pad.lean, when neither scale is negative or infinite. -/
module

public import proofs.«01_k».proof.Proof.RefBlock
public import Idealize.ShloMosaic.Lib.StableHlo.Run

@[expose] public section

set_option maxRecDepth 16384

noncomputable section

namespace Cert.Proof.R

open Cert.ReferenceIdeal Cert.ReferenceIdeal.Gen Idealize.ShloMosaic Idealize.ShloMosaic.TcCoe Idealize.SL.Sem
open Cert.Proof.Pad

/-- A one-element array, loaded as a scalar. -/
theorem scale_at (x : Vec Ideal S1 .f32) (h) :
    View.ld x (Rect.unit ![0] ![1] inb_S1_S1_0) (Shape.Idx.first h) = x (ix1 0) := by
  refine congrArg x ?_
  funext a
  apply Fin.ext
  match a with
  | ⟨0, _⟩ => rfl

/-- The body's result, of its inputs: the two scales are loaded as scalars. -/
theorem out_eq (c : Dev nD) (arg0 : Memref sig .tc .vmem S2x24x32x960 .fp8e4m3) (harg0 : arg0.IsWhole) (arg1 : Memref sig .tc .smem S1 .f32) (harg1 : arg1.IsWhole) (arg2 : Memref sig .tc .vmem S2x24x32x320 .fp8e4m3) (harg2 : arg2.IsWhole) (arg3 : Memref sig .tc .smem S1 .f32) (harg3 : arg3.IsWhole) (arg4 : Memref sig .tc .vmem S3x3x1280x640 .fp8e4m3) (harg4 : arg4.IsWhole) (arg5 : Memref sig .tc .vmem S1x640 .f32) (harg5 : arg5.IsWhole) (arg6 : Memref sig .tc .vmem S1x640 .f32) (harg6 : arg6.IsWhole) (arg7 : Memref sig .tc .vmem S2x24x32x640 .bf16) (harg7 : arg7.IsWhole)
    (x0 : Vec Ideal S2x24x32x960 .fp8e4m3) (x1 : Vec Ideal S1 .f32) (x2 : Vec Ideal S2x24x32x320 .fp8e4m3) (x3 : Vec Ideal S1 .f32) (x4 : Vec Ideal S3x3x1280x640 .fp8e4m3) (x5 : Vec Ideal S1x640 .f32) (x6 : Vec Ideal S1x640 .f32) :
    out0_A_7 c arg0 harg0 arg1 harg1 arg2 harg2 arg3 harg3 arg4 harg4 arg5 harg5 arg6 harg6 arg7 harg7 x0 x1 x2 x3 x4 x5 x6 =
      k0_pay1 (k0_pay2 x0 (x1 (ix1 0)) x2 (x3 (ix1 0)) x4 x5) x6 := by
  frame_open
  simp (disch := decide) only [View.read_writes_junk_eq_canon, View.canon_cons_unit_lit',
        View.ld_unit_lit', View.readCov_unit_lit', View.readCov_cons_unit_lit', View.readAt_eq_ld,
        Memref.IsWhole.read_unread]
  rw [scale_at, scale_at]

variable (m : (ℓ : Loc nD τ sig) → Buf (Elt Ideal) ℓ)

/-! ## What the host lines leave -/

/-- The image's scale, as a one-element array. -/
theorem V_xs (c : Dev nD) : V (F := Ideal) m c main_v0 (ix1 0) = m ((c : Thread nD τ).loc main_arg1) ix0 := by
  have e : (V (F := Ideal) m c main_v0 : FVec Ideal S1 .f32) =
      shapeCast S1 (m ((c : Thread nD τ).loc main_arg1) : FVec Ideal S_ .f32) shapeCasts_S_S1 := by
    unfold_abbrev_sides
    after_results
    rfl
  rw [e]
  pointwise

/-- The skip image's scale, as a one-element array. -/
theorem V_ss (c : Dev nD) : V (F := Ideal) m c main_v1 (ix1 0) = m ((c : Thread nD τ).loc main_arg3) ix0 := by
  have e : (V (F := Ideal) m c main_v1 : FVec Ideal S1 .f32) =
      shapeCast S1 (m ((c : Thread nD τ).loc main_arg3) : FVec Ideal S_ .f32) shapeCasts_S_S1 := by
    unfold_abbrev_sides
    after_results
    rfl
  rw [e]
  pointwise

/-- The weights' scales, as one row. -/
theorem V_ws (c : Dev nD) (n : Fin 640) : V (F := Ideal) m c main_v2 (ix2 0 n) = m ((c : Thread nD τ).loc main_arg5) (ix1 n) := by
  have e : (V (F := Ideal) m c main_v2 : FVec Ideal S1x640 .f32) =
      shapeCast S1x640 (m ((c : Thread nD τ).loc main_arg5) : FVec Ideal S640 .f32) shapeCasts_S640_S1x640 := by
    unfold_abbrev_sides
    after_results
    rfl
  rw [e]
  pointwise

/-- The biases, as one row. -/
theorem V_bias (c : Dev nD) (n : Fin 640) : V (F := Ideal) m c main_v3 (ix2 0 n) = m ((c : Thread nD τ).loc main_arg6) (ix1 n) := by
  have e : (V (F := Ideal) m c main_v3 : FVec Ideal S1x640 .f32) =
      shapeCast S1x640 (m ((c : Thread nD τ).loc main_arg6) : FVec Ideal S640 .f32) shapeCasts_S640_S1x640 := by
    unfold_abbrev_sides
    after_results
    rfl
  rw [e]
  pointwise

/-! ## The one point's blocks -/

/-- Input 0 of the one point is the whole array. -/
theorem iblk0 (c : Dev nD) (t : Fin cfg0.N) (b : Fin 2) (i : Fin 24) (p : Fin 32) (k : Fin 960) :
    iblk m c 0 t (ix4 b i p k) = m ((c : Thread nD τ).loc main_arg0) (ix4 b i p k) := by
  rw [← V_main_arg0 m c]
  rcases fin_N0 t with rfl
  refine congrArg (V (F := Ideal) m c main_arg0) ?_
  funext a
  apply Fin.ext
  match a with
    | ⟨0, _⟩ => show 0 + 1 * b.val = b.val; omega
    | ⟨1, _⟩ => show 0 + 1 * i.val = i.val; omega
    | ⟨2, _⟩ => show 0 + 1 * p.val = p.val; omega
    | ⟨3, _⟩ => show 0 + 1 * k.val = k.val; omega

/-- Input 1 of the one point is the whole array. -/
theorem iblk1 (c : Dev nD) (t : Fin cfg0.N) :
    iblk m c 1 t (ix1 0) = m ((c : Thread nD τ).loc main_arg1) ix0 := by
  rw [← V_xs m c]
  rcases fin_N0 t with rfl
  refine congrArg (V (F := Ideal) m c main_v0) ?_
  funext a
  apply Fin.ext
  match a with
    | ⟨0, _⟩ => rfl

/-- Input 2 of the one point is the whole array. -/
theorem iblk2 (c : Dev nD) (t : Fin cfg0.N) (b : Fin 2) (i : Fin 24) (p : Fin 32) (k : Fin 320) :
    iblk m c 2 t (ix4 b i p k) = m ((c : Thread nD τ).loc main_arg2) (ix4 b i p k) := by
  rw [← V_main_arg2 m c]
  rcases fin_N0 t with rfl
  refine congrArg (V (F := Ideal) m c main_arg2) ?_
  funext a
  apply Fin.ext
  match a with
    | ⟨0, _⟩ => show 0 + 1 * b.val = b.val; omega
    | ⟨1, _⟩ => show 0 + 1 * i.val = i.val; omega
    | ⟨2, _⟩ => show 0 + 1 * p.val = p.val; omega
    | ⟨3, _⟩ => show 0 + 1 * k.val = k.val; omega

/-- Input 3 of the one point is the whole array. -/
theorem iblk3 (c : Dev nD) (t : Fin cfg0.N) :
    iblk m c 3 t (ix1 0) = m ((c : Thread nD τ).loc main_arg3) ix0 := by
  rw [← V_ss m c]
  rcases fin_N0 t with rfl
  refine congrArg (V (F := Ideal) m c main_v1) ?_
  funext a
  apply Fin.ext
  match a with
    | ⟨0, _⟩ => rfl

/-- Input 4 of the one point is the whole array. -/
theorem iblk4 (c : Dev nD) (t : Fin cfg0.N) (y x : Fin 3) (k : Fin 1280) (n : Fin 640) :
    iblk m c 4 t (ix4 y x k n) = m ((c : Thread nD τ).loc main_arg4) (ix4 y x k n) := by
  rw [← V_main_arg4 m c]
  rcases fin_N0 t with rfl
  refine congrArg (V (F := Ideal) m c main_arg4) ?_
  funext a
  apply Fin.ext
  match a with
    | ⟨0, _⟩ => show 0 + 1 * y.val = y.val; omega
    | ⟨1, _⟩ => show 0 + 1 * x.val = x.val; omega
    | ⟨2, _⟩ => show 0 + 1 * k.val = k.val; omega
    | ⟨3, _⟩ => show 0 + 1 * n.val = n.val; omega

/-- Input 5 of the one point is the whole array. -/
theorem iblk5 (c : Dev nD) (t : Fin cfg0.N) (n : Fin 640) :
    iblk m c 5 t (ix2 0 n) = m ((c : Thread nD τ).loc main_arg5) (ix1 n) := by
  rw [← V_ws m c n]
  rcases fin_N0 t with rfl
  refine congrArg (V (F := Ideal) m c main_v2) ?_
  funext a
  apply Fin.ext
  match a with
    | ⟨0, _⟩ => rfl
    | ⟨1, _⟩ => show 0 + 1 * n.val = n.val; omega

/-- Input 6 of the one point is the whole array. -/
theorem iblk6 (c : Dev nD) (t : Fin cfg0.N) (n : Fin 640) :
    iblk m c 6 t (ix2 0 n) = m ((c : Thread nD τ).loc main_arg6) (ix1 n) := by
  rw [← V_bias m c n]
  rcases fin_N0 t with rfl
  refine congrArg (V (F := Ideal) m c main_v3) ?_
  funext a
  apply Fin.ext
  match a with
    | ⟨0, _⟩ => rfl
    | ⟨1, _⟩ => show 0 + 1 * n.val = n.val; omega

/-! ## The result array -/

/-- The result array of the specification, of the arguments as launched. -/
def out (c : Dev nD) : Buf (Elt Ideal) ((c : Thread nD τ).loc main_v4) := fun j =>
  result (fun b i p k => m ((c : Thread nD τ).loc main_arg0) (ix4 b i p k)) (m ((c : Thread nD τ).loc main_arg1) ix0)
    (fun b i p k => m ((c : Thread nD τ).loc main_arg2) (ix4 b i p k)) (m ((c : Thread nD τ).loc main_arg3) ix0)
    (fun y x k n => m ((c : Thread nD τ).loc main_arg4) (ix4 y x k n))
    (fun n => m ((c : Thread nD τ).loc main_arg5) (ix1 n)) (fun n => m ((c : Thread nD τ).loc main_arg6) (ix1 n))
    (j 0) (j 1) (j 2) (j 3)

/-- The body's result at one place, when its inputs are known entry by entry. -/
theorem pay_result {x0 : Vec Ideal S2x24x32x960 .fp8e4m3} {x1 : Vec Ideal S1 .f32} {x2 : Vec Ideal S2x24x32x320 .fp8e4m3}
    {x3 : Vec Ideal S1 .f32} {x4 : Vec Ideal S3x3x1280x640 .fp8e4m3} {x5 x6 : Vec Ideal S1x640 .f32}
    {x : Fin 2 → Fin 24 → Fin 32 → Fin 960 → EReal} {xs : EReal} {s : Fin 2 → Fin 24 → Fin 32 → Fin 320 → EReal} {ss : EReal}
    {w : Fin 3 → Fin 3 → Fin 1280 → Fin 640 → EReal} {ws bias : Fin 640 → EReal}
    (hx0 : 0 ≤ xs) (hx1 : xs ≠ ⊤) (hs0 : 0 ≤ ss) (hs1 : ss ≠ ⊤)
    (h0 : ∀ b i p k, x0 (ix4 b i p k) = x b i p k) (h1 : x1 (ix1 0) = xs) (h2 : ∀ b i p k, x2 (ix4 b i p k) = s b i p k)
    (h3 : x3 (ix1 0) = ss) (h4 : ∀ y x k n, x4 (ix4 y x k n) = w y x k n) (h5 : ∀ n, x5 (ix2 0 n) = ws n)
    (h6 : ∀ n, x6 (ix2 0 n) = bias n) (b : Fin 2) (i : Fin 24) (p : Fin 32) (n : Fin 640) :
    k0_pay1 (F := Ideal) (k0_pay2 x0 (x1 (ix1 0)) x2 (x3 (ix1 0)) x4 x5) x6 (ix4 b i p n) =
      result x xs s ss w ws bias b i p n := by
  have e0 : (fun b i p k => x0 (ix4 b i p k)) = x := by funext b i p k; exact h0 b i p k
  have e2 : (fun b i p k => x2 (ix4 b i p k)) = s := by funext b i p k; exact h2 b i p k
  have e4 : (fun y x k n => x4 (ix4 y x k n)) = w := by funext y x k n; exact h4 y x k n
  have e5 : (fun n => x5 (ix2 0 n)) = ws := funext h5
  have e6 : (fun n => x6 (ix2 0 n)) = bias := funext h6
  have e := pay_at x0 (x1 (ix1 0)) x2 (x3 (ix1 0)) x4 x5 x6 (by rw [h1]; exact hx0) (by rw [h1]; exact hx1)
    (by rw [h3]; exact hs0) (by rw [h3]; exact hs1) b i p n
  rw [e0, e2, e4, e5, e6] at e
  rw [e, h1, h3]

/-- Reading an array through the one point's block reads the array. -/
theorem read_blk (c : Dev nD) (t : Fin cfg0.N) (g : Buf (Elt Ideal) ((c : Thread nD τ).loc main_v4))
    (b : Fin 2) (i : Fin 24) (p : Fin 32) (n : Fin 640) :
    ((cfg0.win 7).blk t).view.read (Elt Ideal) g (ix4 b i p n) = g (ix4 b i p n) := by
  rcases fin_N0 t with rfl
  refine congrArg g ?_
  funext a
  apply Fin.ext
  match a with
  | ⟨0, _⟩ => show 0 + 1 * b.val = b.val; omega
  | ⟨1, _⟩ => show 0 + 1 * i.val = i.val; omega
  | ⟨2, _⟩ => show 0 + 1 * p.val = p.val; omega
  | ⟨3, _⟩ => show 0 + 1 * n.val = n.val; omega

/-- What the one point writes back is the specification. -/
theorem flushed_eq (c : Dev nD) (hx0 : (0 : EReal) ≤ m ((c : Thread nD τ).loc main_arg1) ix0)
    (hx1 : m ((c : Thread nD τ).loc main_arg1) ix0 ≠ (⊤ : EReal)) (hs0 : (0 : EReal) ≤ m ((c : Thread nD τ).loc main_arg3) ix0)
    (hs1 : m ((c : Thread nD τ).loc main_arg3) ix0 ≠ (⊤ : EReal)) (t : Fin cfg0.N) :
    (dats m 0 c).flushed 7 t = ((cfg0.win 7).blk t).view.read (Elt Ideal) (out m c) := by
  rw [Cert.ReferenceIdeal.Value.flushed7_A, out_eq]
  have h : ∀ j : S2x24x32x640.Idx, k0_pay1 (F := Ideal) (k0_pay2 (iblk m c 0 t) (iblk m c 1 t (ix1 0)) (iblk m c 2 t)
      (iblk m c 3 t (ix1 0)) (iblk m c 4 t) (iblk m c 5 t)) (iblk m c 6 t) j =
      ((cfg0.win 7).blk t).view.read (Elt Ideal) (out m c) j := by
    intro j
    idx_vars j
    refine Eq.trans ?_ (read_blk c t (out m c) _ _ _ _).symm
    exact pay_result hx0 hx1 hs0 hs1 (iblk0 m c t) (iblk1 m c t) (iblk2 m c t) (iblk3 m c t) (iblk4 m c t) (iblk5 m c t)
      (iblk6 m c t) _ _ _ _
  exact funext h

/-- The one block is the result array. -/
theorem cover (i : S2x24x32x640.Idx) : ∃ t : Fin cfg0.N, (cfg0.win 7).flush t = true ∧ i ∈ ((cfg0.win 7).blk t).view.set := by
  have h0 : (i 0).val < 2 := (i 0).isLt
  have h1 : (i 1).val < 24 := (i 1).isLt
  have h2 : (i 2).val < 32 := (i 2).isLt
  have h3 : (i 3).val < 640 := (i 3).isLt
  have hN : cfg0.N = 1 := N_0
  have e : ∀ t : Fin cfg0.N, win0_7.index t 0 = 0 ∧ win0_7.index t 1 = 0 ∧ win0_7.index t 2 = 0 ∧ win0_7.index t 3 = 0 := by
    intro t
    rcases fin_N0 t with rfl
    decide +kernel
  refine ⟨⟨0, by omega⟩, flush0_7 _, ?_⟩
  mem_blk [e]
  exact ⟨⟨Nat.zero_le _, h0⟩, ⟨Nat.zero_le _, h1⟩, ⟨Nat.zero_le _, h2⟩, ⟨Nat.zero_le _, h3⟩⟩

/-- So the result array ends holding the specification. -/
theorem final (c : Dev nD) (hx0 : (0 : EReal) ≤ m ((c : Thread nD τ).loc main_arg1) ix0)
    (hx1 : m ((c : Thread nD τ).loc main_arg1) ix0 ≠ (⊤ : EReal)) (hs0 : (0 : EReal) ≤ m ((c : Thread nD τ).loc main_arg3) ix0)
    (hs1 : m ((c : Thread nD τ).loc main_arg3) ix0 ≠ (⊤ : EReal)) :
    (dats m 0 c).arrAt 7 cfg0.N = out m c :=
  (dats m 0 c).arrAt_eq_of_cover 7 (out m c) (fun t _ => flushed_eq m c hx0 hx1 hs0 hs1 t) cover

end Cert.Proof.R

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- What the precondition says of one scale. -/
theorem scale_facts (a : FVec Ideal Cert.Pre_scales_nonnegative_finite.S_ .f32)
    (h : andi (cmpf .oge a (constant Cert.Pre_scales_nonnegative_finite.S_ .f32 0x00000000#32))
      (cmpf .olt a (constant Cert.Pre_scales_nonnegative_finite.S_ .f32 0x7F800000#32)) = fun _ => 1#1) :
    (0 : EReal) ≤ a ix0 ∧ a ix0 ≠ (⊤ : EReal) := by
  have h0 := congrFun h ix0
  pointwise at h0
  by_cases h1 : (0 : EReal) ≤ a ix0
  · by_cases h2 : a ix0 < Idealize.ShloMosaic.Ideal.ofBits .f32 0x7F800000#32
    · exact ⟨h1, ne_top_of_lt h2⟩
    · rw [decide_eq_false h2] at h0
      exact absurd h0 (by rw [decide_eq_true h1]; decide)
  · rw [decide_eq_false h1] at h0
    by_cases h2 : a ix0 < Idealize.ShloMosaic.Ideal.ofBits .f32 0x7F800000#32
    · exact absurd h0 (by rw [decide_eq_true h2]; decide)
    · exact absurd h0 (by rw [decide_eq_false h2]; decide)

/-- Over the extended reals the kernel and the reference end with the same array. -/
theorem algebraic [hP : Cert.Pre_scales_nonnegative_finite.Facts] :
    Cert.algebraic_KernelIdeal_ReferenceIdeal_pre_scales_nonnegative_finite (hKernelIdeal := Cert.KernelIdeal.Gen.facts)
      (hReferenceIdeal := Cert.ReferenceIdeal.Gen.facts) (hPre_scales_nonnegative_finite := hP) := by
  intro m g m' g' hpre hagree
  refine ⟨fun c => Cert.Proof.K.out m c, ?_, ?_⟩
  · exact (θ_run _ _ _).mono (fun r h c => ⟨(h c).1.trans (Cert.Proof.K.final m c), (h c).2⟩)
      (Cert.KernelIdeal.Value.run_blocks m g)
  · refine (θ_run _ _ _).mono (fun r h c => ⟨(h c).1.trans ?_, (h c).2⟩) (Cert.ReferenceIdeal.Value.run_blocks m' g')
    obtain ⟨a0, a1, a2, a3, a4, a5, a6⟩ := hagree c
    have hx := scale_facts _ (hpre c).1
    have hs := scale_facts _ (hpre c).2
    rw [← a1] at hx
    rw [← a3] at hs
    refine (Cert.Proof.R.final m' c hx.1 hx.2 hs.1 hs.2).trans ?_
    unfold Cert.Proof.R.out Cert.Proof.K.out
    rw [a0, a1, a2, a3, a4, a5, a6]
    rfl

/-- The whole certificate. -/
theorem claim : Cert.Claim := ⟨Cert.Kernel.Gen.facts, Cert.KernelIdeal.Gen.facts, Cert.ReferenceIdeal.Gen.facts, ⟨⟩,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, trivial, algebraic (hP := ⟨⟩)⟩

end Cert.Proof

end
